-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 2]⟩ ⟨2, ![4096, 2]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S512x256 .f32) (main_arg1 : FVec F S256x16 .f32) (main_arg2 : IVec S512x2 32) (main_arg3 : FVec F S2x256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_c_2 : IVec S_ 32 := constantI S_ 32 0#32
  let main_v9 : IVec S512x2 32 := broadcastInDim S512x2 ![] bcast_S_S512x2 main_c_2
  let main_v10 : IVec S512x2 1 := cmpi .sge main_arg2 main_v9
  let main_c_3 : IVec S_ 32 := constantI S_ 32 16#32
  let main_v11 : IVec S512x2 32 := broadcastInDim S512x2 ![] bcast_S_S512x2 main_c_3
  let main_v12 : IVec S512x2 1 := cmpi .slt main_arg2 main_v11
  let main_v13 : IVec S512x2 1 := andi main_v10 main_v12
  let main_c_4 : IVec S_ 1 := constantI S_ 1 1#1
  let main_v14 : IVec S_ 1 := (fun x v => Host.reduce IntOp.andi x v reducesTo_S512x2_S_d0_1 h_S_) main_v13 main_c_4
  let main_v15 : IVec S_ 1 := andi main_v8 main_v14
  main_v15
-- ==== Pre_routed_ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x256 .f32) (main_arg1 : FVec F S256x16 .f32) (main_arg2 : IVec S4096x2 32) (main_arg3 : FVec F S16x256x512 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_c_2 : IVec S_ 32 := constantI S_ 32 0#32
  let main_v9 : IVec S4096x2 32 := broadcastInDim S4096x2 ![] bcast_S_S4096x2 main_c_2
  let main_v10 : IVec S4096x2 1 := cmpi .sge main_arg2 main_v9
  let main_c_3 : IVec S_ 32 := constantI S_ 32 16#32
  let main_v11 : IVec S4096x2 32 := broadcastInDim S4096x2 ![] bcast_S_S4096x2 main_c_3
  let main_v12 : IVec S4096x2 1 := cmpi .slt main_arg2 main_v11
  let main_v13 : IVec S4096x2 1 := andi main_v10 main_v12
  let main_c_4 : IVec S_ 1 := constantI S_ 1 1#1
  let main_v14 : IVec S_ 1 := (fun x v => Host.reduce IntOp.andi x v reducesTo_S4096x2_S_d0_1 h_S_) main_v13 main_c_4
  let main_v15 : IVec S_ 1 := andi main_v8 main_v14
  main_v15
-- ==== Kernel.lean ====
abbrev S512x256 : Shape := ⟨2, ![512, 256]⟩
abbrev S256x16 : Shape := ⟨2, ![256, 16]⟩
abbrev S512x2 : Shape := ⟨2, ![512, 2]⟩
abbrev S2x256x512 : Shape := ⟨3, ![2, 256, 512]⟩
abbrev S512x512 : Shape := ⟨2, ![512, 512]⟩
abbrev S8x2x256x512 : Shape := ⟨4, ![8, 2, 256, 512]⟩
abbrev S8 : Shape := ⟨1, ![8]⟩
abbrev S_ : Shape := ⟨0, ![]⟩
abbrev S1 : Shape := ⟨1, ![1]⟩
abbrev S1x2x256x512 : Shape := ⟨4, ![1, 2, 256, 512]⟩
abbrev S512x16 : Shape := ⟨2, ![512, 16]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x2, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x2, .i32⟩
  | .local _ .vmem, ⟨3, _⟩ => ⟨S2x256x512, .f32⟩
  | .local _ .vmem, ⟨4, _⟩ => ⟨S512x512, .f32⟩
  | .local _ .vmem, ⟨5, _⟩ => ⟨S8x2x256x512, .bf16⟩
  | .local _ .vmem, ⟨6, _⟩ => ⟨S2x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.addi v2 c1_i32_5
  let c8_i32_6 : BitVec 32 := 8#32
  let v11 : BitVec 32 := Scalar.remsi v10 c8_i32_6
  let c1_i32_8 : BitVec 32 := 1#32
  let v12 : BitVec 32 := Scalar.muli v11 c1_i32_8
  let v13 : BitVec 32 := Scalar.addi c0_i32 v12
  v13.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v14 : BitVec 32 := Scalar.addi v2 c2_i32
  let c8_i32_9 : BitVec 32 := 8#32
  let v15 : BitVec 32 := Scalar.remsi v14 c8_i32_9
  let c1_i32_11 : BitVec 32 := 1#32
  let v16 : BitVec 32 := Scalar.muli v15 c1_i32_11
  let v17 : BitVec 32 := Scalar.addi c0_i32_12 v16
  v17.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.addi v2 c3_i32
  let c8_i32_13 : BitVec 32 := 8#32
  let v19 : BitVec 32 := Scalar.remsi v18 c8_i32_13
  let c1_i32_15 : BitVec 32 := 1#32
  let v20 : BitVec 32 := Scalar.muli v19 c1_i32_15
  let v21 : BitVec 32 := Scalar.addi c0_i32_16 v20
  v21.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.addi v2 c4_i32
  let c8_i32_17 : BitVec 32 := 8#32
  let v23 : BitVec 32 := Scalar.remsi v22 c8_i32_17
  let c1_i32_19 : BitVec 32 := 1#32
  let v24 : BitVec 32 := Scalar.muli v23 c1_i32_19
  let v25 : BitVec 32 := Scalar.addi c0_i32_20 v24
  v25.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v26 : BitVec 32 := Scalar.addi v2 c5_i32
  let c8_i32_21 : BitVec 32 := 8#32
  let v27 : BitVec 32 := Scalar.remsi v26 c8_i32_21
  let c1_i32_23 : BitVec 32 := 1#32
  let v28 : BitVec 32 := Scalar.muli v27 c1_i32_23
  let v29 : BitVec 32 := Scalar.addi c0_i32_24 v28
  v29.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v30 : BitVec 32 := Scalar.addi v2 c6_i32
  let c8_i32_25 : BitVec 32 := 8#32
  let v31 : BitVec 32 := Scalar.remsi v30 c8_i32_25
  let c1_i32_27 : BitVec 32 := 1#32
  let v32 : BitVec 32 := Scalar.muli v31 c1_i32_27
  let v33 : BitVec 32 := Scalar.addi c0_i32_28 v32
  v33.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v34 : BitVec 32 := Scalar.addi v2 c7_i32
  let c8_i32_29 : BitVec 32 := 8#32
  let v35 : BitVec 32 := Scalar.remsi v34 c8_i32_29
  let c1_i32_31 : BitVec 32 := 1#32
  let v36 : BitVec 32 := Scalar.muli v35 c1_i32_31
  let v37 : BitVec 32 := Scalar.addi c0_i32_32 v36
  v37.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v38 : BitVec 32 := Scalar.addi v2 c1_i32_34
  let c8_i32_35 : BitVec 32 := 8#32
  let v39 : BitVec 32 := Scalar.remsi v38 c8_i32_35
  let c1_i32_39 : BitVec 32 := 1#32
  let v40 : BitVec 32 := Scalar.muli v39 c1_i32_39
  let v41 : BitVec 32 := Scalar.addi c0_i32_40 v40
  v41.toNat
def k0_dev9 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v48 : BitVec 32 := Scalar.addi v2 c2_i32_44
  let c8_i32_45 : BitVec 32 := 8#32
  let v49 : BitVec 32 := Scalar.remsi v48 c8_i32_45
  let c1_i32_49 : BitVec 32 := 1#32
  let v50 : BitVec 32 := Scalar.muli v49 c1_i32_49
  let v51 : BitVec 32 := Scalar.addi c0_i32_50 v50
  v51.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v58 : BitVec 32 := Scalar.addi v2 c3_i32_54
  let c8_i32_55 : BitVec 32 := 8#32
  let v59 : BitVec 32 := Scalar.remsi v58 c8_i32_55
  let c1_i32_59 : BitVec 32 := 1#32
  let v60 : BitVec 32 := Scalar.muli v59 c1_i32_59
  let v61 : BitVec 32 := Scalar.addi c0_i32_60 v60
  v61.toNat
def k0_dev11 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v68 : BitVec 32 := Scalar.addi v2 c4_i32_64
  let c8_i32_65 : BitVec 32 := 8#32
  let v69 : BitVec 32 := Scalar.remsi v68 c8_i32_65
  let c1_i32_69 : BitVec 32 := 1#32
  let v70 : BitVec 32 := Scalar.muli v69 c1_i32_69
  let v71 : BitVec 32 := Scalar.addi c0_i32_70 v70
  v71.toNat
def k0_dev12 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v78 : BitVec 32 := Scalar.addi v2 c5_i32_74
  let c8_i32_75 : BitVec 32 := 8#32
  let v79 : BitVec 32 := Scalar.remsi v78 c8_i32_75
  let c1_i32_79 : BitVec 32 := 1#32
  let v80 : BitVec 32 := Scalar.muli v79 c1_i32_79
  let v81 : BitVec 32 := Scalar.addi c0_i32_80 v80
  v81.toNat
def k0_dev13 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v88 : BitVec 32 := Scalar.addi v2 c6_i32_84
  let c8_i32_85 : BitVec 32 := 8#32
  let v89 : BitVec 32 := Scalar.remsi v88 c8_i32_85
  let c1_i32_89 : BitVec 32 := 1#32
  let v90 : BitVec 32 := Scalar.muli v89 c1_i32_89
  let v91 : BitVec 32 := Scalar.addi c0_i32_90 v90
  v91.toNat
def k0_dev14 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v98 : BitVec 32 := Scalar.addi v2 c7_i32_94
  let c8_i32_95 : BitVec 32 := 8#32
  let v99 : BitVec 32 := Scalar.remsi v98 c8_i32_95
  let c1_i32_99 : BitVec 32 := 1#32
  let v100 : BitVec 32 := Scalar.muli v99 c1_i32_99
  let v101 : BitVec 32 := Scalar.addi c0_i32_100 v100
  v101.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x2 : Shape := ⟨2, ![4096, 2]⟩
abbrev S16x256x512 : Shape := ⟨3, ![16, 256, 512]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S4096x256x512 : Shape := ⟨3, ![4096, 256, 512]⟩
abbrev S4096x512 : Shape := ⟨2, ![4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x2, .i32⟩
  | .hbm, ⟨3, _⟩ => ⟨S16x256x512, .f32⟩
  | .hbm, ⟨4, _⟩ => ⟨S4096x16, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x16, .f32⟩
  | .hbm, ⟨15, _⟩ => ⟨S4096x16, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x1, .i32⟩
  | .hbm, ⟨37, _⟩ => ⟨S4096x2, .i32⟩
  | .hbm, ⟨38, _⟩ => ⟨S4096, .f32⟩
  | .hbm, ⟨39, _⟩ => ⟨S4096x1, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x1, .i32⟩
  | .hbm, ⟨56, _⟩ => ⟨S4096x2, .i32⟩
  | .hbm, ⟨57, _⟩ => ⟨S4096, .f32⟩
  | .hbm, ⟨58, _⟩ => ⟨S4096x1, .f32⟩
  | .hbm, ⟨59, _⟩ => ⟨S4096x1, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x256x512, .f32⟩
  | .hbm, ⟨69, _⟩ => ⟨S4096x512, .f32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S4096x256x512, .f32⟩
  | .hbm, ⟨79, _⟩ => ⟨S4096x512, .f32⟩
  | .hbm, ⟨80, _⟩ => ⟨S4096x1, .f32⟩
  | .hbm, ⟨81, _⟩ => ⟨S4096x512, .f32⟩
  | .hbm, ⟨82, _⟩ => ⟨S4096x512, .f32⟩
  | .hbm, ⟨83, _⟩ => ⟨S4096x1, .f32⟩
  | .hbm, ⟨84, _⟩ => ⟨S4096x512, .f32⟩
  | .hbm, ⟨85, _⟩ => ⟨S4096x512, .f32⟩
  | .hbm, ⟨86, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_10 : Ref sig .tc := ⟨.hbm, 70, rfl⟩
abbrev main_v54 : Ref sig .tc := ⟨.hbm, 71, rfl⟩
abbrev main_v55 : Ref sig .tc := ⟨.hbm, 72, rfl⟩
abbrev main_c_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Proto.lean ====
/-
# The exchange protocol of the expert all-gather

Every device casts its own pair of expert matrices to bf16, greets the seven others on the barrier semaphore, sends
each of them its pair, and reads the seven pairs that arrive. Devices and distances are both numbers below eight, and
`c + k` is the device at distance `k` after `c` around the ring.

This module fixes the cells of that exchange (one barrier cell, eight send cells and eight receive cells per device), the
contents that travel, the schedule of one round that says who pays which cell and what is handed over, and the levels
that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.ShareLeaves
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's ghost state: one record per semaphore cell, its duties named by a distance below eight. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## Distances, cells and buffers -/

/-- The distances a device talks over: one to seven. -/
def K7 : Finset (Fin 8) := Finset.univ.erase 0

theorem mem_K7 {k : Fin 8} : k ∈ K7 ↔ k ≠ 0 := by unfold K7; simp
theorem card_K7 : K7.card = 7 := by decide

abbrev barS : Sem sig := (SemArray.scalar (sig.barrier 0 rfl) : Sems sig S_).sem
set_option backward.proofsInPublic true in
/-- The semaphore on which the transfer over distance `k` leaves. -/
def sendS (k : Fin 8) : DmaSem sig := ⟨5 + k.val, Nat.lt_of_lt_of_le (Nat.add_lt_add_left k.isLt 5) (by decide)⟩
set_option backward.proofsInPublic true in
/-- The semaphore on which the transfer over distance `k` arrives. -/
def recvS (k : Fin 8) : DmaSem sig := ⟨13 + k.val, Nat.lt_of_lt_of_le (Nat.add_lt_add_left k.isLt 13) (by decide)⟩

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- The scoped semaphores of the exchange: eight send, eight receive. -/
abbrev osem (i : Fin 16) : SemLoc sig := if h : i.val < 8 then .dma (sendS ⟨i.val, h⟩) else .dma (recvS ⟨i.val - 8, by omega⟩)
/-- All seventeen semaphores of the exchange: the barrier, then the scoped ones. -/
abbrev csem (i : Fin 17) : SemLoc sig := if h : i.val = 0 then .reg barS else osem ⟨i.val - 1, by omega⟩
abbrev kcell (ck : Dev nD × Fin 17) : GSem nD τ sig := ((ck.1 : Thread nD τ), csem ck.2)

abbrev iSend (k : Fin 8) : Fin 17 := ⟨k.val + 1, by omega⟩
abbrev iRecv (k : Fin 8) : Fin 17 := ⟨k.val + 9, by omega⟩

theorem csem_send (k : Fin 8) : csem (iSend k) = .dma (sendS k) := by revert k; decide
theorem csem_recv (k : Fin 8) : csem (iRecv k) = .dma (recvS k) := by revert k; decide
theorem kcell_bar (c : Dev nD) : kcell (c, 0) = barCell c := rfl
theorem kcell_send (c : Dev nD) (k : Fin 8) : kcell (c, iSend k) = sendCell c k := congrArg (Prod.mk _) (csem_send k)
theorem kcell_recv (c : Dev nD) (k : Fin 8) : kcell (c, iRecv k) = recvCell c k := congrArg (Prod.mk _) (csem_recv k)

theorem slot_inb (k : Fin 8) : ∀ a, (![k.val, 0, 0, 0] : Fin 4 → Nat) a + S1x2x256x512.size a ≤ S8x2x256x512.size a := by
  revert k; decide

/-- The buffer the casts are sent from. -/
abbrev sM : Memref sig .tc .vmem S2x256x512 .bf16 := Memref.whole cc0_scratch1
/-- Slot `k` of the landing buffer: where the pair from distance `k` before arrives. -/
abbrev slotM (k : Fin 8) : Memref sig .tc .vmem S2x256x512 .bf16 :=
  ((Memref.whole cc0_scratch0).slice (Rect.unit (s := S8x2x256x512) ![k.val, 0, 0, 0] S1x2x256x512.size (slot_inb k)) (fun _ => rfl)).squeeze
    S2x256x512 squeezes_S1x2x256x512_S2x256x512

/-- The elements of the landing buffer that slot `k` covers. -/
def slotI (k : Fin 8) : Finset (cc0_scratch0 : Ref sig .tc).ty.Idx := (slotM k).view.set

theorem slotI_eq (k : Fin 8) : slotI k = ((Memref.whole cc0_scratch0 : Memref sig .tc .vmem S8x2x256x512 .bf16).view.slice
    (Rect.unit (s := S8x2x256x512) ![k.val, 0, 0, 0] S1x2x256x512.size (slot_inb k))).set := View.set_reshape _ _

/-- Different slots cover different elements. -/
theorem slotI_disjoint (k k' : Fin 8) (h : k ≠ k') : Disjoint (slotI k) (slotI k') := by
  rw [slotI_eq, slotI_eq]
  refine View.disjoint_slice_of_sep _ _ _ (0 : Fin 4) rfl rfl ?_
  have h' : k.val ≠ k'.val := fun e => h (Fin.ext e)
  show k.val + 1 ≤ k'.val ∨ k'.val + 1 ≤ k.val
  omega

abbrev N : ℕ := (sM : Memref sig .tc .vmem S2x256x512 .bf16).view.dmaCredit
theorem N_pos : 0 < N := View.dmaCredit_pos _ (by decide)
theorem slot_credit (k : Fin 8) : (slotM k).view.dmaCredit = N := rfl

/-! ## Contents -/

/-- Device `c`'s pair of expert matrices, as the body finds it. -/
def ewAt (c : Dev nD) : (cc0_stg3_0 : Ref sig .tc).ty.Contents (Elt F) :=
  (win0_3.blk (0 : Fin 1)).view.read (Elt F) ((s₀ m ρ).mem ((c : Thread nD τ).loc main_arg3))

/-- Device `c`'s pair cast to bf16: what it sends. -/
def castAt (c : Dev nD) : FVec F S2x256x512 .bf16 := k0_pay1 (ewAt m ρ c)

/-- The send buffer of device `c` holding its cast pair, held at the `k`-th of eight equal shares. -/
def sendPts (c : Dev nD) (k : Fin 8) : sProp 𝕄 :=
  (sM : Memref sig .tc .vmem S2x256x512 .bf16).view.loc (c : Thread nD τ) ↦[(sM : Memref sig .tc .vmem S2x256x512 .bf16).view.set]{ShareLeaves.leaf 3 fullShare k} castAt m ρ c
/-- The elements of a memref on device `c`, at some contents. -/
def heldEx {sp : Space} {s : Shape} {e : EltTy} (c : Dev nD) (M : Memref sig .tc sp s e) : sProp 𝕄 :=
  iprop(∃ f : Buf (Elt F) (M.view.loc (c : Thread nD τ)), M.view.loc (c : Thread nD τ) ↦[M.view.set]{fullShare} f)
/-- Slot `k` of device `c`'s landing buffer, at some contents. -/
def slotEx (c : Dev nD) (k : Fin 8) : sProp 𝕄 := heldEx c (slotM k)
/-- Slot `k` of device `c`'s landing buffer reading as the pair of the device at distance `k` before `c`. -/
def slotGot (c : Dev nD) (k : Fin 8) : sProp 𝕄 :=
  owns (c : Thread nD τ) (slotM k) fullShare (castAt m ρ (c - k))

omit [FloatOps F] in
instance heldEx_storable {sp : Space} {s : Shape} {e : EltTy} (c : Dev nD) (M : Memref sig .tc sp s e) :
    BI.Storable (upEmb : UEmb _ 𝕄) (heldEx (F := F) c M) := by unfold heldEx; infer_instance
omit [FloatOps F] in
instance slotEx_storable (c : Dev nD) (k : Fin 8) : BI.Storable (upEmb : UEmb _ 𝕄) (slotEx (F := F) c k) := heldEx_storable c (slotM k)
instance sendPts_storable (c : Dev nD) (k : Fin 8) : BI.Storable (upEmb : UEmb _ 𝕄) (sendPts (F := F) m ρ c k) := by unfold sendPts; infer_instance
instance slotGot_storable (c : Dev nD) (k : Fin 8) : BI.Storable (upEmb : UEmb _ 𝕄) (slotGot (F := F) m ρ c k) := by unfold slotGot; infer_instance

/-! ## The schedule -/

/-- Which duties a semaphore carries in the one round: the barrier one per distance, a used transfer semaphore one. -/
def dutyOf : SemLoc sig → Finset (Fin 8)
  | .reg s => if s = barS then K7 else ∅
  | .dma q => if 5 < q.val ∧ q.val ≠ 13 then {0} else ∅

/-- What a duty hands over. The greeting from distance `d` after a device hands it a slot at that device; a send hands
    the sender its share back; an arrival hands the receiver the slot, filled. -/
def payOf (c : Dev nD) (d : Fin 8) : SemLoc sig → sProp 𝕄
  | .reg _ => slotEx (c + d) d
  | .dma q => if 13 ≤ q.val then slotGot m ρ c (Fin.ofNat 8 (q.val - 13)) else sendPts m ρ c (Fin.ofNat 8 (q.val - 5))

instance payOf_storable (c : Dev nD) (d : Fin 8) (sm : SemLoc sig) : BI.Storable (upEmb : UEmb _ 𝕄) (payOf (F := F) m ρ c d sm) := by
  cases sm with
  | reg s => unfold payOf; infer_instance
  | dma q => unfold payOf; dsimp only; split <;> infer_instance

/-- One round on every cell of a tensor core, as `dutyOf` and `payOf` say; a greeting is one unit, a transfer its bytes. -/
def Rd : Rounds.Schedule (GSem nD τ sig) (Fin 8) 𝕄 where
  duties g r := if r = 0 ∧ g.1.2 = .tc then dutyOf g.2 else ∅
  unitless _ := False
  amount g _ _ := match g.2 with | .reg _ => 1 | .dma _ => N
  payload g _ d := payOf m ρ g.1.1 d g.2
  amount_pos g _ _ _ := by rcases g with ⟨t, _ | _⟩; exacts [Nat.one_pos, N_pos]

instance Rd_payload_storable (g : GSem nD τ sig) (r : ℕ) (d : Fin 8) :
    BI.Storable (upEmb : UEmb _ 𝕄) ((Rd (F := F) m ρ).payload g r d) := payOf_storable m ρ g.1.1 d g.2

section Tables
variable (c : Dev nD) (k : Fin 8)

theorem dutyOf_send : dutyOf (.dma (sendS k)) = if k = 0 then ∅ else {0} := by revert k; decide
theorem dutyOf_recv : dutyOf (.dma (recvS k)) = if k = 0 then ∅ else {0} := by revert k; decide

theorem duties_bar : (Rd (F := F) m ρ).duties (barCell c) 0 = K7 := rfl
theorem duties_send (h : k ≠ 0) : (Rd (F := F) m ρ).duties (sendCell c k) 0 = {0} := (dutyOf_send k).trans (if_neg h)
theorem duties_recv (h : k ≠ 0) : (Rd (F := F) m ρ).duties (recvCell c k) 0 = {0} := (dutyOf_recv k).trans (if_neg h)
theorem duties_send0 : (Rd (F := F) m ρ).duties (sendCell c 0) 0 = ∅ := dutyOf_send 0
theorem duties_recv0 : (Rd (F := F) m ρ).duties (recvCell c 0) 0 = ∅ := dutyOf_recv 0
theorem duties_later (g : GSem nD τ sig) : ∀ r, 1 ≤ r → (Rd (F := F) m ρ).duties g r = ∅ :=
  fun r hr => by dsimp only [Rd]; rw [if_neg fun h => by omega]

theorem amount_bar (d : Fin 8) : (Rd (F := F) m ρ).amount (barCell c) 0 d = 1 := rfl
theorem amount_send (d : Fin 8) : (Rd (F := F) m ρ).amount (sendCell c k) 0 d = N := rfl
theorem amount_recv (d : Fin 8) : (Rd (F := F) m ρ).amount (recvCell c k) 0 d = N := rfl

theorem expect_bar : (Rd (F := F) m ρ).expect (barCell c) 0 = 7 := by
  unfold Schedule.expect Schedule.amountOf
  rw [duties_bar, Finset.sum_congr rfl fun d _ => amount_bar m ρ c d, Finset.sum_const, card_K7, smul_eq_mul]
theorem expect_send (h : k ≠ 0) : (Rd (F := F) m ρ).expect (sendCell c k) 0 = N := by
  unfold Schedule.expect Schedule.amountOf; rw [duties_send _ _ _ _ h, Finset.sum_singleton, amount_send]
theorem expect_recv (h : k ≠ 0) : (Rd (F := F) m ρ).expect (recvCell c k) 0 = N := by
  unfold Schedule.expect Schedule.amountOf; rw [duties_recv _ _ _ _ h, Finset.sum_singleton, amount_recv]

theorem payload_bar (d : Fin 8) : (Rd (F := F) m ρ).payload (barCell c) 0 d = slotEx (c + d) d := rfl
theorem payload_send (d : Fin 8) : (Rd (F := F) m ρ).payload (sendCell c k) 0 d = sendPts m ρ c k := by
  show (if 13 ≤ 5 + k.val then _ else _) = _
  rw [if_neg (by have := k.isLt; omega)]
  congr 1
  exact Fin.ext (by show (5 + k.val - 5) % 8 = k.val; have := k.isLt; omega)
theorem payload_recv (d : Fin 8) : (Rd (F := F) m ρ).payload (recvCell c k) 0 d = slotGot m ρ c k := by
  show (if 13 ≤ 13 + k.val then _ else _) = _
  rw [if_pos (by omega)]
  congr 1
  exact Fin.ext (by show (13 + k.val - 13) % 8 = k.val; have := k.isLt; omega)

theorem rest_bar : bigSep ((Rd (F := F) m ρ).duties (barCell c) 0 \ ∅) (fun d => (Rd (F := F) m ρ).payload (barCell c) 0 d)
    = bigSep K7 (fun d => slotEx (F := F) (c + d) d) := by
  rw [Finset.sdiff_empty, duties_bar]; rfl
theorem rest_send (h : k ≠ 0) : bigSep ((Rd (F := F) m ρ).duties (sendCell c k) 0 \ ∅) (fun d => (Rd (F := F) m ρ).payload (sendCell c k) 0 d)
    = sendPts m ρ c k := by
  rw [Finset.sdiff_empty, duties_send _ _ _ _ h, bigSep_singleton, payload_send]
theorem rest_recv (h : k ≠ 0) : bigSep ((Rd (F := F) m ρ).duties (recvCell c k) 0 \ ∅) (fun d => (Rd (F := F) m ρ).payload (recvCell c k) 0 d)
    = slotGot m ρ c k := by
  rw [Finset.sdiff_empty, duties_recv _ _ _ _ h, bigSep_singleton, payload_recv]

end Tables

/-! ## What a device owes; the levels -/

/-- Device `c` still owes the arrivals over the distances in `S` and the greetings over the distances in `T`. -/
def owed (c : Dev nD) (S T : Finset (Fin 8)) : CellTallies nD τ sig Unit :=
  ∑ k ∈ S, tallyAt (recvCell (c + k) k) () N + ∑ k ∈ T, tallyAt (barCell (c + k)) () 1

theorem owed_erase_bar (c : Dev nD) (S T : Finset (Fin 8)) {k : Fin 8} (h : k ∈ T) :
    owed c S T = owed c S (T.erase k) + tallyAt (barCell (c + k)) () 1 := by
  unfold owed; rw [add_assoc, Finset.sum_erase_add _ _ h]
theorem owed_erase_recv (c : Dev nD) (S : Finset (Fin 8)) {k : Fin 8} (h : k ∈ S) :
    owed c S ∅ = owed c (S.erase k) ∅ + tallyAt (recvCell (c + k) k) () N := by
  unfold owed; rw [Finset.sum_empty, add_zero, add_zero, Finset.sum_erase_add _ _ h]
theorem owed_none (c : Dev nD) : owed c ∅ ∅ = 0 := by unfold owed; rw [Finset.sum_empty, Finset.sum_empty, add_zero]

theorem owed_pos {c : Dev nD} {S T : Finset (Fin 8)} {g : GSem nD τ sig} {u : Unit} (h : 0 < owed c S T g u) :
    (∃ k ∈ S, g = recvCell (c + k) k) ∨ ∃ k ∈ T, g = barCell (c + k) := by
  by_contra hn
  rw [not_or] at hn
  refine absurd h ?_
  unfold owed
  rw [Pi.add_apply, Finsupp.add_apply, Finset.sum_apply, Finset.sum_apply, Finsupp.finset_sum_apply, Finsupp.finset_sum_apply,
    Finset.sum_eq_zero fun k hk => ?_, Finset.sum_eq_zero fun k hk => ?_]
  · exact Nat.lt_irrefl 0
  · rw [tallyAt_apply]; exact if_neg fun e => hn.2 ⟨k, hk, e.1⟩
  · rw [tallyAt_apply]; exact if_neg fun e => hn.1 ⟨k, hk, e.1⟩

def L (g : GSem nD τ sig) : Finset Unit := if g.1.2 = .tc then {()} else ∅
/-- Barrier cells at level one, receive cells at two, the rest at zero. -/
def lv (g : GSem nD τ sig) (_ : Unit) : ℕ := match g.2 with | .reg _ => 1 | .dma q => if 13 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 8) : lv (recvCell c k) () = 2 := if_pos (Nat.le_add_right 13 k.val)
theorem lv_bar (c : Dev nD) : lv (barCell c) () = 1 := rfl

omit [FloatOps F] in
/-- A staging semaphore may be waited on whatever of the exchange is owed. -/
theorem mayWait_stage (c : Dev nD) (q : DmaSem sig) (hq : q.val < 13) (S T : Finset (Fin 8)) :
    (levAts L lv : sProp 𝕄) ⊢ MayWait (c : Thread nD τ) (.dma q) () (owed c S T) :=
  MayOwe.of_cut (L := L) (lev := lv) 0 (fun p hp => by rw [Finset.mem_singleton.mp hp, L_tc]; exact Finset.mem_singleton_self _)
    (fun g u hg => by rcases owed_pos hg with ⟨k, _, rfl⟩ | ⟨k, _, rfl⟩ <;> exact Finset.mem_singleton_self _)
    (fun p hp => by rw [Finset.mem_singleton.mp hp]; exact le_of_eq (if_neg (by omega)))
    (fun g u hg => by
      rcases owed_pos hg with ⟨k, _, rfl⟩ | ⟨k, _, rfl⟩
      · rw [show lv _ u = 2 from lv_recv _ _]; decide
      · rw [show lv _ u = 1 from lv_bar _]; decide)

omit [FloatOps F] in
/-- The barrier may be waited on while only arrivals are owed. -/
theorem mayWait_bar (c : Dev nD) (S : Finset (Fin 8)) :
    (levAts L lv : sProp 𝕄) ⊢ MayWait (c : Thread nD τ) (.reg barS) () (owed c S ∅) :=
  MayOwe.of_cut (L := L) (lev := lv) 1 (fun p hp => by rw [Finset.mem_singleton.mp hp, L_tc]; exact Finset.mem_singleton_self _)
    (fun g u hg => by rcases owed_pos hg with ⟨k, _, rfl⟩ | ⟨k, _, rfl⟩ <;> exact Finset.mem_singleton_self _)
    (fun p hp => by rw [Finset.mem_singleton.mp hp]; exact le_of_eq rfl)
    (fun g u hg => by
      rcases owed_pos hg with ⟨k, _, rfl⟩ | ⟨k, hk, _⟩
      · rw [show lv _ u = 2 from lv_recv _ _]; decide
      · exact absurd hk (Finset.notMem_empty k))

end Cert.Exchange

end
-- ==== Proof.Steps.lean ====
/-
# The steps of the exchange

One rule per kind of effect, at a symbolic device and a symbolic distance: a greeting, the wait for seven greetings, a
transfer, the wait for an arrival, the wait for a departure. Each takes the state before it and gives the state after it.
-/
module

public import proofs.«01_k».proof.Proof.Proto

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

omit [FloatOps F] in
/-- One member of a family taken out of it. -/
theorem bigSep_peel {I : Type} [DecidableEq I] {S : Finset I} {i : I} (h : i ∈ S) (Φ : I → sProp 𝕄) :
    bigSep S Φ = iprop(Φ i ∗ bigSep (S.erase i) Φ) := bigSep_erase h

/-! ## What every device may use: the cells' invariants, and that round zero is reached -/

/-- Every cell's invariant, under the names `K`, and every cell at round zero. -/
def records (K : Dev nD × Fin 17 → ℕ) : sProp 𝕄 :=
  iprop((bigSep Finset.univ fun ck : Dev nD × Fin 17 => cellInv ER (Rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

section Steps
variable (K : Dev nD × Fin 17 → ℕ)

theorem inv_at (ck : Dev nD × Fin 17) : records m ρ K ⊢ cellInv ER (Rd m ρ) (K ck) (kcell ck) := by
  unfold records; iintro ⟨H, -⟩
  iapply (show (bigSep Finset.univ fun ck : Dev nD × Fin 17 => (cellInv ER (Rd m ρ) (K ck) (kcell ck) : sProp 𝕄)) ⊢ cellInv ER (Rd m ρ) (K ck) (kcell ck)
    from bigSep_elim (Finset.mem_univ ck))
  iexact H
theorem reached_at (ck : Dev nD × Fin 17) : records m ρ K ⊢ reached ER (kcell ck) 0 := by
  unfold records; iintro ⟨-, H⟩
  iapply (show (bigSep Finset.univ fun ck : Dev nD × Fin 17 => (reached ER (kcell ck) 0 : sProp 𝕄)) ⊢ reached ER (kcell ck) 0
    from bigSep_elim (Finset.mem_univ ck))
  iexact H

theorem inv_bar (c : Dev nD) : records m ρ K ⊢ cellInv ER (Rd m ρ) (K (c, 0)) (barCell c) := inv_at m ρ K (c, 0)
theorem inv_send (c : Dev nD) (k : Fin 8) : records m ρ K ⊢ cellInv ER (Rd m ρ) (K (c, iSend k)) (sendCell c k) := by
  rw [← kcell_send]; exact inv_at m ρ K (c, iSend k)
theorem inv_recv (c : Dev nD) (k : Fin 8) : records m ρ K ⊢ cellInv ER (Rd m ρ) (K (c, iRecv k)) (recvCell c k) := by
  rw [← kcell_recv]; exact inv_at m ρ K (c, iRecv k)
theorem reached_bar (c : Dev nD) : records m ρ K ⊢ reached ER (barCell c) 0 := reached_at m ρ K (c, 0)
theorem reached_send (c : Dev nD) (k : Fin 8) : records m ρ K ⊢ reached ER (sendCell c k) 0 := by
  rw [← kcell_send]; exact reached_at m ρ K (c, iSend k)
theorem reached_recv (c : Dev nD) (k : Fin 8) : records m ρ K ⊢ reached ER (recvCell c k) 0 := by
  rw [← kcell_recv]; exact reached_at m ρ K (c, iRecv k)

/-- Device `c` owes `O`, whatever it has waited on. -/
def ow (c : Dev nD) (O : CellTallies nD τ sig Unit) : sProp 𝕄 := iprop(∃ W, owes (c : Thread nD τ) O W)

/-! ## Greetings -/

/-- Greetings over the distances in `T` are still to be sent: their tokens, and the slots they hand over. -/
def greetSt (c : Dev nD) (T : Finset (Fin 8)) : sProp 𝕄 :=
  iprop(ow c (owed c K7 T) ∗ bigSep T (fun k => dutyTok ER (barCell (c + k)) 0 (-k)) ∗ bigSep T (fun k => slotEx (F := F) c (-k)))

theorem greet_step (c : Dev nD) {T : Finset (Fin 8)} (k : Fin 8) (hk : k ∈ T) (hk0 : k ≠ 0) {n : Dev nD} (hn : n = c + k) {j : ℤ} (hj : j = ((1 : ℕ) : ℤ))
    {α : Type} {Q : α → sProp 𝕄} {kk : PUnit → Prog (TpuEff nD τ sig (Elt F) Λ₀ .tc) α} :
    iprop(records m ρ K ∗ greetSt c T)
      ⊢ iprop((greetSt c (T.erase k) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS j) kk) Q) := by
  subst hn; subst hj
  unfold greetSt ow
  rw [bigSep_peel hk (fun k => (dutyTok ER (barCell (c + k)) 0 (-k) : sProp 𝕄)), bigSep_peel hk (fun k => slotEx (F := F) c (-k))]
  iintro ⟨#HR, ⟨%W, HO⟩, ⟨Ht, Hts⟩, Hs, Hss⟩ Hk
  iapply (Rounds.wp_signal 𝒱₀ ER (Rd m ρ) (c : Thread nD τ) none (dst := (c + k : Dev nD)) (κ := K (c + k, 0)) (r := 0) (d := -k)
      (by rw [duties_bar, mem_K7]; exact fun h => hk0 (neg_eq_zero.mp h)) (amount_bar m ρ (c + k) (-k)) () (owed c K7 (T.erase k)) (owed_erase_bar c K7 T hk))
    $$ [HO Ht Hs]
  · isplitr; · iapply (inv_bar m ρ K (c + k)); iexact HR
    isplitl [HO]; · iexact HO
    isplitl [Ht]; · iexact Ht
    isplitl [Hs]
    · rw [payload_bar, add_neg_cancel_right]; iexact Hs
    iapply (reached_bar m ρ K (c + k)); iexact HR
  iintro HO
  iapply Hk
  isplitl [HO]; · iexists W; iexact HO
  isplitl [Hts] <;> iassumption

/-- The wait for the seven greetings: it brings slot `d` of the device at distance `d`, for every distance. -/
theorem bar_step (c : Dev nD) {j : ℤ} (hj : j = ((7 : ℕ) : ℤ)) {α : Type} {Q : α → sProp 𝕄} {kk : PUnit → Prog (TpuEff nD τ sig (Elt F) Λ₀ .tc) α} :
    iprop(records m ρ K ∗ levAts L lv ∗ cred (tallyAt (barCell c) () 7) ∗ ow c (owed c K7 ∅) ∗ atPos ER (barCell c) 0 ∅ 0)
      ⊢ iprop(((ow c (owed c K7 ∅) ∗ semVal (barCell c) 0 ∗ bigSep K7 (fun d => slotEx (F := F) (c + d) d))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS j) kk) Q) := by
  subst hj
  unfold ow
  iintro ⟨#HR, Hlev, Hc, ⟨%W, HO⟩, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := owed c K7 ∅) (W := W) (R := 0) (m := 0) (T := ∅)
      (by rw [expect_bar])) $$ [Hc HO Hat Hlev]
  · isplitr; · iapply (inv_bar m ρ K c); iexact HR
    isplitl [Hc]; · iexact Hc
    isplitl [HO]; · iexact HO
    isplitl [Hlev]; · iapply (mayWait_bar c K7); iexact Hlev
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  iapply (Entails.of_eq (rest_bar m ρ c)); iexact Hpay

/-! ## Transfers -/

/-- Transfers over the distances in `S` are still to be started: the shares they send from, the slots they fill, their tokens. -/
def sendSt (c : Dev nD) (S : Finset (Fin 8)) : sProp 𝕄 :=
  iprop(ow c (owed c S ∅) ∗ bigSep S (fun k => sendPts m ρ c k) ∗ bigSep S (fun k => slotEx (F := F) (c + k) k)
    ∗ bigSep S (fun k => dutyTok ER (sendCell c k) 0 0) ∗ bigSep S (fun k => dutyTok ER (recvCell (c + k) k) 0 0))

theorem slot_lands (c : Dev nD) (k : Fin 8) (fd : Buf (Elt F) ((slotM k).view.loc ((c + k : Dev nD) : Thread nD τ))) :
    ((slotM k).view.loc ((c + k : Dev nD) : Thread nD τ) ↦[(slotM k).view.set]{fullShare}
        ((slotM k).view.write (Elt F) fd ((sM : Memref sig .tc .vmem S2x256x512 .bf16).view.read (Elt F) (castAt m ρ c)) Finset.univ) : sProp 𝕄)
      ⊢ slotGot m ρ (c + k) k := by
  unfold slotGot
  rw [add_sub_cancel_right]
  refine (owns_intro (c := ((c + k : Dev nD) : Thread nD τ)) (slotM k) fullShare _).trans (Entails.of_eq ?_)
  congr 1
  exact View.read_write_univ _ _

theorem send_step (c : Dev nD) {S : Finset (Fin 8)} (k : Fin 8) (hk : k ∈ S) (hk0 : k ≠ 0) {n : Dev nD} (hn : n = c + k)
    {M : Memref sig .tc .vmem S2x256x512 .bf16} (hM : M = slotM k)
    {sa sb : DmaSem sig} (ha : sa = sendS k) (hb : sb = recvS k)
    {hsc : (M : Memref sig (Dev.tc n : Thread nD τ).2.kind .vmem S2x256x512 .bf16).view.ref.isScScratch = false}
    {hsrc : (sM : Memref sig .tc .vmem S2x256x512 .bf16).view.WordExact} {hdst : M.view.WordExact}
    {hsem : DmaTarget.Typed .vmem (.dma sb) (.remote (Dev.tc n : Thread nD τ) (M : Memref sig .tc .vmem S2x256x512 .bf16) (.dma sa) hsc)}
    {α : Type} {Q : α → sProp 𝕄} {kk : PUnit → Prog (TpuEff nD τ sig (Elt F) Λ₀ .tc) α} :
    iprop(records m ρ K ∗ sendSt m ρ c S)
      ⊢ iprop(((cred (tallyAt (sendCell c k) () N) ∗ sendSt m ρ c (S.erase k))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sM (.remote (Dev.tc n : Thread nD τ) M (.dma sa) hsc) (.dma sb) hsrc hdst hsem) kk) Q) := by
  subst hn; subst hM; subst ha; subst hb
  unfold sendSt ow
  rw [bigSep_peel hk (fun k => sendPts m ρ c k), bigSep_peel hk (fun k => slotEx (F := F) (c + k) k),
    bigSep_peel hk (fun k => (dutyTok ER (sendCell c k) 0 0 : sProp 𝕄)), bigSep_peel hk (fun k => (dutyTok ER (recvCell (c + k) k) 0 0 : sProp 𝕄))]
  iintro ⟨#HR, ⟨%W, HO⟩, ⟨Hp, Hps⟩, ⟨Hs, Hss⟩, ⟨Ht, Hts⟩, Hu, Hus⟩ Hk
  unfold slotEx heldEx
  icases Hs with ⟨%fd, Hs⟩
  unfold sendPts
  iapply (Rounds.wp_send_pointsTo 𝒱₀ ER (Rd m ρ) (c : Thread nD τ) none (κ₁ := K (c, iSend k)) (κ₂ := K (c + k, iRecv k))
    (r₁ := 0) (r₂ := 0) (d₁ := 0) (d₂ := 0) (fd := fd)
    (by rw [duties_send m ρ c k hk0]; exact Finset.mem_singleton_self _) (by rw [duties_recv m ρ (c + k) k hk0]; exact Finset.mem_singleton_self _)
    () () N rfl (amount_send m ρ c k 0) (amount_recv m ρ (c + k) k 0) (owed c (S.erase k) ∅) (owed_erase_recv c S hk) (W := W)
    (by rw [payload_send]; unfold sendPts; exact BI.Entails.refl _)
    (by rw [payload_recv]; exact slot_lands m ρ c k fd)) $$ [HO Hp Hs Ht Hu]
  · isplitr; · iapply (inv_send m ρ K c k); iexact HR
    isplitr; · iapply (inv_recv m ρ K (c + k) k); iexact HR
    isplitl [Hp]; · iexact Hp
    isplitl [Hs]; · iexact Hs
    isplitl [HO]; · iexact HO
    isplitl [Ht]; · iexact Ht
    isplitr; · iapply (reached_send m ρ K c k); iexact HR
    isplitl [Hu]; · iexact Hu
    iapply (reached_recv m ρ K (c + k) k); iexact HR
  iintro ⟨Hc, HO⟩
  iapply Hk
  isplitl [Hc]; · iexact Hc
  isplitl [HO]; · iexists W; iexact HO
  isplitl [Hps]; · iexact Hps
  isplitl [Hss]; · iexact Hss
  isplitl [Hts] <;> iassumption

/-! ## Waits on the transfers -/

/-- The wait for the arrival over distance `k`: the slot, filled, and the cell closed at zero. -/
theorem recv_step (c : Dev nD) (k : Fin 8) (hk0 : k ≠ 0) {M : Memref sig .tc .vmem S2x256x512 .bf16} (hM : M = slotM k)
    {sb : DmaSem sig} (hb : sb = recvS k) {hsrc : (sM : Memref sig .tc .vmem S2x256x512 .bf16).view.WordExact} {hdst : M.view.WordExact}
    {α : Type} {Q : α → sProp 𝕄} {kk : PUnit → Prog (TpuEff nD τ sig (Elt F) Λ₀ .tc) α} :
    iprop(records m ρ K ∗ ow c 0 ∗ cred (tallyAt (recvCell c k) () N) ∗ atPos ER (recvCell c k) 0 ∅ 0)
      ⊢ iprop(((ow c 0 ∗ semVal (recvCell c k) 0 ∗ slotGot m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sb sM M hsrc hdst) kk) Q) := by
  subst hM; subst hb
  unfold ow
  iintro ⟨#HR, ⟨%W, HO⟩, Hc, Hat⟩ Hk
  iapply (Rounds.wp_wait_rest_token 𝒱₀ ER (Rd m ρ) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv m ρ c k hk0])) $$ [Hc HO Hat]
  · isplitr; · iapply (inv_recv m ρ K c k); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, iRecv k))) (fun h => h) (R := 0 + 1) (duties_later m ρ (recvCell c k))) $$ [Hat] with Hz
  · isplitr; · iapply (inv_recv m ρ K c k); iexact HR
    iexact Hat
  iapply Hk
  isplitl [HO]; · iexists _; iexact HO
  isplitl [Hz]; · iexact Hz
  iapply (Entails.of_eq (rest_recv m ρ c k hk0)); iexact Hpay

/-- The wait for the departure over distance `k`: the share of the send buffer back, and the cell closed at zero. -/
theorem sent_step (c : Dev nD) (k : Fin 8) (hk0 : k ≠ 0) {M : Memref sig .tc .vmem S2x256x512 .bf16}
    {sa : DmaSem sig} (ha : sa = sendS k) {hdst : (sM : Memref sig .tc .vmem S2x256x512 .bf16).view.WordExact} {hsrc : M.view.WordExact}
    {α : Type} {Q : α → sProp 𝕄} {kk : PUnit → Prog (TpuEff nD τ sig (Elt F) Λ₀ .tc) α} :
    iprop(records m ρ K ∗ ow c 0 ∗ cred (tallyAt (sendCell c k) () N) ∗ atPos ER (sendCell c k) 0 ∅ 0)
      ⊢ iprop(((ow c 0 ∗ semVal (sendCell c k) 0 ∗ sendPts m ρ c k)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sa M sM hsrc hdst) kk) Q) := by
  subst ha
  unfold ow
  iintro ⟨#HR, ⟨%W, HO⟩, Hc, Hat⟩ Hk
  iapply (Rounds.wp_wait_rest_token 𝒱₀ ER (Rd m ρ) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send m ρ c k hk0])) $$ [Hc HO Hat]
  · isplitr; · iapply (inv_send m ρ K c k); iexact HR
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, iSend k))) (fun h => h) (R := 0 + 1) (duties_later m ρ (sendCell c k))) $$ [Hat] with Hz
  · isplitr; · iapply (inv_send m ρ K c k); iexact HR
    iexact Hat
  iapply Hk
  isplitl [HO]; · iexists _; iexact HO
  isplitl [Hz]; · iexact Hz
  iapply (Entails.of_eq (rest_send m ρ c k hk0)); iexact Hpay

end Steps

end Cert.Exchange

end
-- ==== Proof.Body.lean ====
/-
# The body on one device

The fifteen printed parts of the kernel body, each run from the state the part before it leaves, at a symbolic device and
for any float values; and the result `outAt` they compute, as the chain of the parts' own payloads.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body finds in its staging buffers -/

/-- Device `c`'s tokens. -/
def xAt (c : Dev nD) : (cc0_stg0_0 : Ref sig .tc).ty.Contents (Elt F) :=
  (win0_0.blk (0 : Fin 1)).view.read (Elt F) ((s₀ m ρ).mem ((c : Thread nD τ).loc main_arg0))
/-- The router's weights, as device `c` holds them. -/
def rwAt (c : Dev nD) : (cc0_stg1_0 : Ref sig .tc).ty.Contents (Elt F) :=
  (win0_1.blk (0 : Fin 1)).view.read (Elt F) ((s₀ m ρ).mem ((c : Thread nD τ).loc main_arg1))
/-- The two experts chosen for each of device `c`'s tokens. -/
def riAt (c : Dev nD) : (cc0_stg2_0 : Ref sig .tc).ty.Contents (Elt F) :=
  (win0_2.blk (0 : Fin 1)).view.read (Elt F) ((s₀ m ρ).mem ((c : Thread nD τ).loc main_arg2))

abbrev rTok : Rect S512x256 := Rect.unit (s := S512x256) ![0, 0] S512x256.size inb_S512x256_S512x256_0_0
abbrev rRout : Rect S256x16 := Rect.unit (s := S256x16) ![0, 0] S256x16.size inb_S256x16_S256x16_0_0
abbrev rPair : Rect S2x256x512 := Rect.unit (s := S2x256x512) ![0, 0, 0] S2x256x512.size inb_S2x256x512_S2x256x512_0_0_0
abbrev rOut : Rect S512x512 := Rect.unit (s := S512x512) ![0, 0] S512x512.size inb_S512x512_S512x512_0_0
abbrev rCol0 : Rect S512x2 := Rect.unit (s := S512x2) ![0, 0] S512x1.size inb_S512x2_S512x1_0_0
abbrev rCol1 : Rect S512x2 := Rect.unit (s := S512x2) ![0, 1] S512x1.size inb_S512x2_S512x1_0_1
abbrev rHalf0 : Rect S2x256x512 := Rect.unit (s := S2x256x512) ![0, 0, 0] S1x256x512.size inb_S2x256x512_S1x256x512_0_0_0
abbrev rHalf1 : Rect S2x256x512 := Rect.unit (s := S2x256x512) ![1, 0, 0] S1x256x512.size inb_S2x256x512_S1x256x512_1_0_0

/-- The first and the second chosen expert of each token. -/
def col0 (c : Dev nD) : Vec F S512x1 .i32 := fun x => riAt m ρ c (rCol0.toLoadRect.idx x)
def col1 (c : Dev nD) : Vec F S512x1 .i32 := fun x => riAt m ρ c (rCol1.toLoadRect.idx x)
/-- The first and the second matrix of device `c`'s own pair. -/
def own0 (c : Dev nD) : Vec F S1x256x512 .f32 := fun x => ewAt m ρ c (rHalf0.toLoadRect.idx x)
def own1 (c : Dev nD) : Vec F S1x256x512 .f32 := fun x => ewAt m ρ c (rHalf1.toLoadRect.idx x)
/-- The first and the second matrix of the pair that device `p` sends. -/
def got0 (p : Dev nD) : Vec F S1x256x512 .bf16 := fun x => castAt m ρ p (rHalf0.toLoadRect.idx x)
def got1 (p : Dev nD) : Vec F S1x256x512 .bf16 := fun x => castAt m ρ p (rHalf1.toLoadRect.idx x)

/-! ## What the body computes -/

/-- The device's own number as the body computes it. -/
abbrev meW (c : Dev nD) : BitVec 32 := Scalar.remsi (Scalar.divsi (Dev.word c) 1#32) 8#32
/-- The expert number of each lane of a row of scores. -/
abbrev lanes : IVec S512x16 32 := iota .tc S512x16 32 [1] iota_S512x16_d1_w32
abbrev xv (c : Dev nD) : FVec F S512x256 .f32 := k0_pay2 (xAt m ρ c)
/-- The tokens' weights over the sixteen experts. -/
abbrev wv (c : Dev nD) : FVec F S512x16 .f32 := k0_pay3 (xAt m ρ c) (rwAt m ρ c) (col0 m ρ c) (col1 m ρ c)

/-- The running sum after the device's own pair, then after each of the seven arrivals. -/
abbrev acc0 (c : Dev nD) : FVec F S512x512 .f32 :=
  k0_pay7 (xv m ρ c) (wv m ρ c) (k0_pay4 (F := F)) (k0_pay5 (meW c) (xAt m ρ c) (rwAt m ρ c) (col0 m ρ c) (col1 m ρ c)) (k0_pay6 (meW c))
    (Scalar.ofBits .f32 0x00000000#32) (own0 m ρ c) (own1 m ρ c)
abbrev acc1 (c : Dev nD) : FVec F S512x512 .f32 :=
  k0_pay10 (xv m ρ c) (wv m ρ c) (acc0 m ρ c) (k0_pay8 (meW c) lanes (wv m ρ c)) (k0_pay9 (meW c) lanes) (got0 m ρ (c - 1)) (got1 m ρ (c - 1))
abbrev acc2 (c : Dev nD) : FVec F S512x512 .f32 :=
  k0_pay11 (xv m ρ c) lanes (wv m ρ c) (acc1 m ρ c) (Scalar.subi (Scalar.addi (meW c) 8#32) 2#32) 8#32 (got0 m ρ (c - 2)) (got1 m ρ (c - 2))
abbrev acc3a (c : Dev nD) : FVec F S512x512 .f32 := k0_pay13 (meW c) (xv m ρ c) lanes (wv m ρ c) (acc2 m ρ c) (got0 m ρ (c - 3))
abbrev acc3 (c : Dev nD) : FVec F S512x512 .f32 :=
  k0_pay14 (k0_pay12 (meW c) (xv m ρ c) lanes (wv m ρ c)) (acc3a m ρ c) (got1 m ρ (c - 3))
abbrev acc4 (c : Dev nD) : FVec F S512x512 .f32 :=
  k0_pay17 (acc3 m ρ c) (k0_pay15 (meW c) (xv m ρ c) lanes (wv m ρ c)) (k0_pay16 (meW c) (xv m ρ c) lanes (wv m ρ c)) (got0 m ρ (c - 4)) (got1 m ρ (c - 4))
abbrev acc5 (c : Dev nD) : FVec F S512x512 .f32 :=
  k0_pay20 (xv m ρ c) (wv m ρ c) (acc4 m ρ c) (k0_pay18 (meW c) lanes (wv m ρ c)) (k0_pay19 (meW c) lanes) (got0 m ρ (c - 5)) (got1 m ρ (c - 5))
abbrev acc6 (c : Dev nD) : FVec F S512x512 .f32 :=
  k0_pay21 (xv m ρ c) lanes (wv m ρ c) (acc5 m ρ c) (Scalar.subi (Scalar.addi (meW c) 8#32) 6#32) 8#32 (got0 m ρ (c - 6)) (got1 m ρ (c - 6))
abbrev acc7a (c : Dev nD) : FVec F S512x512 .f32 := k0_pay23 (meW c) (xv m ρ c) lanes (wv m ρ c) (acc6 m ρ c) (got0 m ρ (c - 7))
/-- The kernel's result on device `c`. -/
abbrev outAt (c : Dev nD) : (cc0_stg4_0 : Ref sig .tc).ty.Contents (Elt F) :=
  k0_pay24 (k0_pay22 (meW c) (xv m ρ c) lanes (wv m ρ c)) (acc7a m ρ c) (got1 m ρ (c - 7))

/-! ## The loads and stores -/

/-- A whole buffer of device `c` at contents `f`. -/
abbrev bufAt (c : Dev nD) (b : Ref sig .tc) (f : b.ty.Contents (Elt F)) : sProp 𝕄 := iprop((c : Thread nD τ).loc b ↦{fullShare} f)

section Accesses
variable (K : Dev nD × Fin 17 → ℕ)

theorem hz2 : (![0, 0] : Fin 2 → Nat) = fun _ => 0 := funext fun a => by fin_cases a <;> rfl
theorem hz3 : (![0, 0, 0] : Fin 3 → Nat) = fun _ => 0 := funext fun a => by fin_cases a <;> rfl

/-- A load from a filled slot gives the sender's pair at the loaded rectangle's places. -/
theorem load_slot (c : Dev nD) (k : Fin 8) {M : Memref sig .tc .vmem S2x256x512 .bf16} (hM : M = slotM k) {r : LoadRect S2x256x512}
    {v : r.shape.Idx → Elt F .bf16} (hv : v = fun x => castAt m ρ (c - k) (r.idx x))
    {hl : M.view.LoadsAt r} {α : Type} {Q : α → sProp 𝕄} {kk : (r.shape.Idx → Elt F .bf16) → Prog (TpuEff nD τ sig (Elt F) Λ₀ .tc) α} :
    slotGot m ρ c k
      ⊢ iprop((slotGot m ρ c k -∗ wp frame (wpE (defs₀ (F := F)) 𝒱₀ (c : Thread nD τ) none) Set.univ (kk v) Q)
          -∗ wp frame (wpE (defs₀ (F := F)) 𝒱₀ (c : Thread nD τ) none) Set.univ (.op (.load M r hl) kk) Q) := by
  subst hM; subst hv
  unfold slotGot owns
  iintro ⟨%f, %hf, H⟩ Hk
  iapply (wp_load 𝒱₀ (c : Thread nD τ) none Set.univ (m := slotM k) (View.setOn_subset_set _ _)) $$ H
  iintro H
  rw [show (slotM k).view.readAt (Elt F) r f = fun x => castAt m ρ (c - k) (r.idx x) from by rw [← hf]; rfl]
  iapply Hk
  iexists f
  isplitr; · ipureintro; exact hf
  iexact H

end Accesses

/-! ## The parts -/

section Parts
variable (K : Dev nD × Fin 17 → ℕ)

/-- The pair cast and stored in the send buffer, and four greetings. -/
theorem part1_wp (c : Dev nD) {Kt : _ → sProp 𝕄} :
    iprop(records m ρ K
        ∗ greetSt (F := F) c K7
        ∗ bufAt c cc0_stg3_0 (ewAt m ρ c)
        ∗ (∃ f, bufAt c cc0_scratch1 f)
        ∗ (iprop(greetSt (F := F) c ((((K7.erase 1).erase 2).erase 3).erase 4) ∗ bufAt c cc0_stg3_0 (ewAt m ρ c) ∗ bufAt c cc0_scratch1 (castAt m ρ c)) -∗ Kt ⟨c, meW c, SemArray.scalar (sig.barrier 0 rfl)⟩))
      ⊢ wp frame (wpE (defs₀ (F := F)) 𝒱₀ (c : Thread nD τ) none) Set.univ
    (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3) Kt := by
  simp only [k0_part1_eq_skeleton]; unfold k0_part1_skel
  simp only [semSignalWord, semWaitWord, Prog.lift, Prog.bind_op, Prog.bind_ret, Prog.pure_eq_ret, wp_deviceId]
  iintro ⟨#HR, HG, He, ⟨%f, Hs⟩, Hk⟩
  iapply (wp_load 𝒱₀ (c : Thread nD τ) none Set.univ (m := Memref.whole cc0_stg3_0) (Finset.subset_univ _)) $$ He; iintro He
  rw [show (Memref.whole cc0_stg3_0).view.readAt (Elt F) rPair.toLoadRect (ewAt m ρ c) = ewAt m ρ c from Memref.readAt_unit_zero (Elt F) cc0_stg3_0 hz3 _ _]
  iapply (wp_load 𝒱₀ (c : Thread nD τ) none Set.univ (m := Memref.whole cc0_scratch1) (Finset.subset_univ _)) $$ Hs; iintro Hs
  iapply (wp_store 𝒱₀ (c : Thread nD τ) none Set.univ (m := Memref.whole cc0_scratch1) (r := rPair) (Mk := Finset.univ) (Finset.subset_univ _)) $$ Hs; iintro Hs
  rw [show ((Memref.whole cc0_scratch1).access rPair : View sig .tc _ _ _).write (Elt F) f (k0_pay1 (ewAt m ρ c)) Finset.univ = castAt m ρ c
    from Memref.write_access_unit_zero_univ (Elt F) cc0_scratch1 hz3 _ f _]
  iapply (greet_step m ρ K c (T := K7) 1 (by decide) (by decide) (n := ⟨k0_dev1 c, k0_dev1_lt c⟩) (Fin.ext (k0_dev1_eq c)) (by decide)) $$ [HG]
  · isplitr; · iexact HR
    iexact HG
  iintro HG
  iapply (greet_step m ρ K c (T := (K7.erase 1)) 2 (by decide) (by decide) (n := ⟨k0_dev2 c, k0_dev2_lt c⟩) (Fin.ext (k0_dev2_eq c)) (by decide)) $$ [HG]
  · isplitr; · iexact HR
    iexact HG
  iintro HG
  iapply (greet_step m ρ K c (T := ((K7.erase 1).erase 2)) 3 (by decide) (by decide) (n := ⟨k0_dev3 c, k0_dev3_lt c⟩) (Fin.ext (k0_dev3_eq c)) (by decide)) $$ [HG]
  · isplitr; · iexact HR
    iexact HG
  iintro HG
  iapply (greet_step m ρ K c (T := (((K7.erase 1).erase 2).erase 3)) 4 (by decide) (by decide) (n := ⟨k0_dev4 c, k0_dev4_lt c⟩) (Fin.ext (k0_dev4_eq c)) (by decide)) $$ [HG]
  · isplitr; · iexact HR
    iexact HG
  iintro HG
  rw [wp_ret]; imodintro
  iapply Hk
  isplitl [HG]; · iexact HG
  isplitl [He]; · iexact He
  iexact Hs

omit [FloatOps F] in
/-- All greetings sent: only arrivals are owed. -/
theorem greet_done (c : Dev nD) {T : Finset (Fin 8)} (hT : T = ∅) : greetSt (F := F) c T ⊢ ow c (owed c K7 ∅) := by
  subst hT; unfold greetSt; iintro ⟨H, -, -⟩; iexact H

/-- All transfers are still to be started. -/
theorem send_ready (c : Dev nD) :
    iprop(ow c (owed c K7 ∅) ∗ bigSep K7 (fun k => sendPts m ρ c k) ∗ bigSep K7 (fun d => slotEx (F := F) (c + d) d)
      ∗ bigSep K7 (fun k => dutyTok ER (sendCell c k) 0 0) ∗ bigSep K7 (fun k => dutyTok ER (recvCell (c + k) k) 0 0)) ⊢ sendSt m ρ c K7 := BI.Entails.refl _

/-- The last three greetings, the wait for all seven, and the first transfer. -/
theorem part2_wp (c : Dev nD) {Kt : _ → sProp 𝕄} :
    iprop(records m ρ K
        ∗ levAts L lv
        ∗ cred (tallyAt (barCell c) () 7)
        ∗ greetSt (F := F) c ((((K7.erase 1).erase 2).erase 3).erase 4)
        ∗ atPos ER (barCell c) 0 ∅ 0
        ∗ bigSep K7 (fun k => sendPts m ρ c k)
        ∗ bigSep K7 (fun k => dutyTok ER (sendCell c k) 0 0)
        ∗ bigSep K7 (fun k => dutyTok ER (recvCell (c + k) k) 0 0)
        ∗ (iprop(semVal (barCell c) 0 ∗ cred (tallyAt (sendCell c 1) () N) ∗ sendSt m ρ c (K7.erase 1)) -∗ Kt ⟨Scalar.remsi (Scalar.addi (meW c) 1#32) 8#32, Scalar.remsi (Scalar.addi (meW c) 2#32) 8#32⟩))
      ⊢ wp frame (wpE (defs₀ (F := F)) 𝒱₀ (c : Thread nD τ) none) Set.univ
    (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 c (meW c) (SemArray.scalar (sig.barrier 0 rfl))) Kt := by
  simp only [k0_part2_eq_skeleton]; unfold k0_part2_skel
  simp only [semSignalWord, semWaitWord, Prog.lift, Prog.bind_op, Prog.bind_ret, Prog.pure_eq_ret, wp_deviceId]
  iintro ⟨#HR, Hlev, Hcb, HG, Hat, Hsp, Ht, Hu, Hk⟩
  iapply (greet_step m ρ K c (T := ((((K7.erase 1).erase 2).erase 3).erase 4)) 5 (by decide) (by decide) (n := ⟨k0_dev5 c, k0_dev5_lt c⟩) (Fin.ext (k0_dev5_eq c)) (by decide)) $$ [HG]
  · isplitr; · iexact HR
    iexact HG
  iintro HG
  iapply (greet_step m ρ K c (T := (((((K7.erase 1).erase 2).erase 3).erase 4).erase 5)) 6 (by decide) (by decide) (n := ⟨k0_dev6 c, k0_dev6_lt c⟩) (Fin.ext (k0_dev6_eq c)) (by decide)) $$ [HG]
  · isplitr; · iexact HR
    iexact HG
  iintro HG
  iapply (greet_step m ρ K c (T := ((((((K7.erase 1).erase 2).erase 3).erase 4).erase 5).erase 6)) 7 (by decide) (by decide) (n := ⟨k0_dev7 c, k0_dev7_lt c⟩) (Fin.ext (k0_dev7_eq c)) (by decide)) $$ [HG]
  · isplitr; · iexact HR
    iexact HG
  iintro HG
  iapply (bar_step m ρ K c (by decide)) $$ [Hcb HG Hat Hlev]
  · isplitr; · iexact HR
    isplitl [Hlev]; · iexact Hlev
    isplitl [Hcb]; · iexact Hcb
    isplitl [HG]; · iapply (greet_done (F := F) c (T := (((((((K7.erase 1).erase 2).erase 3).erase 4).erase 5).erase 6).erase 7)) (by decide)); iexact HG
    iexact Hat
  iintro ⟨HO, Hz, Hslots⟩
  ihave HS := (send_ready m ρ c) $$ [HO Hslots Hsp Ht Hu]
  · isplitl [HO]; · iexact HO
    isplitl [Hsp]; · iexact Hsp
    isplitl [Hslots]; · iexact Hslots
    isplitl [Ht] <;> iassumption
  iapply (send_step m ρ K c (S := K7) 1 (by decide) (by decide) (n := ⟨k0_dev8 c, k0_dev8_lt c⟩) (Fin.ext (k0_dev8_eq c)) rfl rfl rfl) $$ [HS]
  · isplitr; · iexact HR
    iexact HS
  iintro ⟨Hc1, HS⟩
  rw [wp_ret]; imodintro
  iapply Hk
  isplitl [Hz]; · iexact Hz
  isplitl [Hc1]; · iexact Hc1
  iexact HS

/-- Three more transfers. -/
theorem part3_wp (c : Dev nD) (w : BitVec 32) {Kt : _ → sProp 𝕄} :
    iprop(records m ρ K
        ∗ sendSt m ρ c (K7.erase 1)
        ∗ (iprop(cred (tallyAt (sendCell c 2) () N) ∗ cred (tallyAt (sendCell c 3) () N) ∗ cred (tallyAt (sendCell c 4) () N) ∗ sendSt m ρ c ((((K7.erase 1).erase 2).erase 3).erase 4)) -∗ Kt ⟨Scalar.remsi (Scalar.addi (meW c) 3#32) 8#32, Scalar.remsi (Scalar.addi (meW c) 4#32) 8#32, Scalar.addi (meW c) 5#32, 8#32⟩))
      ⊢ wp frame (wpE (defs₀ (F := F)) 𝒱₀ (c : Thread nD τ) none) Set.univ
    (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 c (meW c) w) Kt := by
  simp only [k0_part3_eq_skeleton]; unfold k0_part3_skel
  simp only [semSignalWord, semWaitWord, Prog.lift, Prog.bind_op, Prog.bind_ret, Prog.pure_eq_ret, wp_deviceId]
  iintro ⟨#HR, HS, Hk⟩
  iapply (send_step m ρ K c (S := (K7.erase 1)) 2 (by decide) (by decide) (n := ⟨k0_dev9 c, k0_dev9_lt c⟩) (Fin.ext (k0_dev9_eq c)) rfl rfl rfl) $$ [HS]
  · isplitr; · iexact HR
    iexact HS
  iintro ⟨Hc2, HS⟩
  iapply (send_step m ρ K c (S := ((K7.erase 1).erase 2)) 3 (by decide) (by decide) (n := ⟨k0_dev10 c, k0_dev10_lt c⟩) (Fin.ext (k0_dev10_eq c)) rfl rfl rfl) $$ [HS]
  · isplitr; · iexact HR
    iexact HS
  iintro ⟨Hc3, HS⟩
  iapply (send_step m ρ K c (S := (((K7.erase 1).erase 2).erase 3)) 4 (by decide) (by decide) (n := ⟨k0_dev11 c, k0_dev11_lt c⟩) (Fin.ext (k0_dev11_eq c)) rfl rfl rfl) $$ [HS]
  · isplitr; · iexact HR
    iexact HS
  iintro ⟨Hc4, HS⟩
  rw [wp_ret]; imodintro
  iapply Hk
  isplitl [Hc2]; · iexact Hc2
  isplitl [Hc3]; · iexact Hc3
  isplitl [Hc4]; · iexact Hc4
  iexact HS

/-- The last three transfers. -/
theorem part4_wp (c : Dev nD) (w w' : BitVec 32) {Kt : _ → sProp 𝕄} :
    iprop(records m ρ K
        ∗ sendSt m ρ c ((((K7.erase 1).erase 2).erase 3).erase 4)
        ∗ (iprop(cred (tallyAt (sendCell c 5) () N) ∗ cred (tallyAt (sendCell c 6) () N) ∗ cred (tallyAt (sendCell c 7) () N) ∗ sendSt m ρ c (((((((K7.erase 1).erase 2).erase 3).erase 4).erase 5).erase 6).erase 7)) -∗ Kt ⟨Scalar.remsi w w', Scalar.remsi (Scalar.addi (meW c) 6#32) 8#32, Scalar.remsi (Scalar.addi (meW c) 7#32) 8#32⟩))
      ⊢ wp frame (wpE (defs₀ (F := F)) 𝒱₀ (c : Thread nD τ) none) Set.univ
    (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 c (meW c) w w') Kt := by
  simp only [k0_part4_eq_skeleton]; unfold k0_part4_skel
  simp only [semSignalWord, semWaitWord, Prog.lift, Prog.bind_op, Prog.bind_ret, Prog.pure_eq_ret, wp_deviceId]
  iintro ⟨#HR, HS, Hk⟩
  iapply (send_step m ρ K c (S := ((((K7.erase 1).erase 2).erase 3).erase 4)) 5 (by decide) (by decide) (n := ⟨k0_dev12 c, k0_dev12_lt c⟩) (Fin.ext (k0_dev12_eq c)) rfl rfl rfl) $$ [HS]
  · isplitr; · iexact HR
    iexact HS
  iintro ⟨Hc5, HS⟩
  iapply (send_step m ρ K c (S := (((((K7.erase 1).erase 2).erase 3).erase 4).erase 5)) 6 (by decide) (by decide) (n := ⟨k0_dev13 c, k0_dev13_lt c⟩) (Fin.ext (k0_dev13_eq c)) rfl rfl rfl) $$ [HS]
  · isplitr; · iexact HR
    iexact HS
  iintro ⟨Hc6, HS⟩
  iapply (send_step m ρ K c (S := ((((((K7.erase 1).erase 2).erase 3).erase 4).erase 5).erase 6)) 7 (by decide) (by decide) (n := ⟨k0_dev14 c, k0_dev14_lt c⟩) (Fin.ext (k0_dev14_eq c)) rfl rfl rfl) $$ [HS]
  · isplitr; · iexact HR
    iexact HS
  iintro ⟨Hc7, HS⟩
  rw [wp_ret]; imodintro
  iapply Hk
  isplitl [Hc5]; · iexact Hc5
  isplitl [Hc6]; · iexact Hc6
  isplitl [Hc7]; · iexact Hc7
  iexact HS

/-- The tokens' weights over the experts. -/
theorem part5_wp (c : Dev nD) {Kt : _ → sProp 𝕄} :
    iprop(bufAt c cc0_stg0_0 (xAt m ρ c)
        ∗ bufAt c cc0_stg1_0 (rwAt m ρ c)
        ∗ bufAt c cc0_stg2_0 (riAt m ρ c)
        ∗ (iprop(bufAt c cc0_stg0_0 (xAt m ρ c) ∗ bufAt c cc0_stg1_0 (rwAt m ρ c) ∗ bufAt c cc0_stg2_0 (riAt m ρ c)) -∗ Kt ⟨xv m ρ c, lanes, wv m ρ c, k0_pay4 (F := F), k0_pay5 (meW c) (xAt m ρ c) (rwAt m ρ c) (col0 m ρ c) (col1 m ρ c), k0_pay6 (meW c), Scalar.ofBits .f32 0x00000000#32⟩))
      ⊢ wp frame (wpE (defs₀ (F := F)) 𝒱₀ (c : Thread nD τ) none) Set.univ
    (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c)) Kt := by
  simp only [k0_part5_eq_skeleton]; unfold k0_part5_skel
  simp only [semSignalWord, semWaitWord, Prog.lift, Prog.bind_op, Prog.bind_ret, Prog.pure_eq_ret, wp_deviceId]
  iintro ⟨Hx, Hw, Hi, Hk⟩
  iapply (wp_load 𝒱₀ (c : Thread nD τ) none Set.univ (m := Memref.whole cc0_stg0_0) (Finset.subset_univ _)) $$ Hx; iintro Hx
  rw [show (Memref.whole cc0_stg0_0).view.readAt (Elt F) rTok.toLoadRect (xAt m ρ c) = xAt m ρ c from Memref.readAt_unit_zero (Elt F) cc0_stg0_0 hz2 _ _]
  iapply (wp_load 𝒱₀ (c : Thread nD τ) none Set.univ (m := Memref.whole cc0_stg1_0) (Finset.subset_univ _)) $$ Hw; iintro Hw
  rw [show (Memref.whole cc0_stg1_0).view.readAt (Elt F) rRout.toLoadRect (rwAt m ρ c) = rwAt m ρ c from Memref.readAt_unit_zero (Elt F) cc0_stg1_0 hz2 _ _]
  iapply (wp_load 𝒱₀ (c : Thread nD τ) none Set.univ (m := Memref.whole cc0_stg2_0) (Finset.subset_univ _)) $$ Hi; iintro Hi
  rw [show (Memref.whole cc0_stg2_0).view.readAt (Elt F) rCol0.toLoadRect (riAt m ρ c) = col0 m ρ c from rfl]
  iapply (wp_load 𝒱₀ (c : Thread nD τ) none Set.univ (m := Memref.whole cc0_stg2_0) (Finset.subset_univ _)) $$ Hi; iintro Hi
  rw [show (Memref.whole cc0_stg2_0).view.readAt (Elt F) rCol1.toLoadRect (riAt m ρ c) = col1 m ρ c from rfl]
  rw [wp_ret]; imodintro
  iapply Hk
  isplitl [Hx]; · iexact Hx
  isplitl [Hw]; · iexact Hw
  iexact Hi

/-- The device's own pair added in, and the wait for the first arrival. -/
theorem part6_wp (c : Dev nD) (w : BitVec 32) {Kt : _ → sProp 𝕄} :
    iprop(records m ρ K
        ∗ bufAt c cc0_stg3_0 (ewAt m ρ c)
        ∗ ow c 0
        ∗ cred (tallyAt (recvCell c 1) () N)
        ∗ atPos ER (recvCell c 1) 0 ∅ 0
        ∗ (iprop(bufAt c cc0_stg3_0 (ewAt m ρ c) ∗ ow c 0 ∗ semVal (recvCell c 1) 0 ∗ slotGot m ρ c 1) -∗ Kt ⟨acc0 m ρ c, k0_pay8 (meW c) lanes (wv m ρ c), k0_pay9 (meW c) lanes⟩))
      ⊢ wp frame (wpE (defs₀ (F := F)) 𝒱₀ (c : Thread nD τ) none) Set.univ
    (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) w (xv m ρ c) lanes (wv m ρ c) (k0_pay4 (F := F)) (k0_pay5 (meW c) (xAt m ρ c) (rwAt m ρ c) (col0 m ρ c) (col1 m ρ c)) (k0_pay6 (meW c)) (Scalar.ofBits .f32 0x00000000#32)) Kt := by
  simp only [k0_part6_eq_skeleton]; unfold k0_part6_skel
  simp only [semSignalWord, semWaitWord, Prog.lift, Prog.bind_op, Prog.bind_ret, Prog.pure_eq_ret, wp_deviceId]
  iintro ⟨#HR, He, HO, Hc, Hat, Hk⟩
  iapply (wp_load 𝒱₀ (c : Thread nD τ) none Set.univ (m := Memref.whole cc0_stg3_0) (Finset.subset_univ _)) $$ He; iintro He
  rw [show (Memref.whole cc0_stg3_0).view.readAt (Elt F) rHalf0.toLoadRect (ewAt m ρ c) = own0 m ρ c from rfl]
  iapply (wp_load 𝒱₀ (c : Thread nD τ) none Set.univ (m := Memref.whole cc0_stg3_0) (Finset.subset_univ _)) $$ He; iintro He
  rw [show (Memref.whole cc0_stg3_0).view.readAt (Elt F) rHalf1.toLoadRect (ewAt m ρ c) = own1 m ρ c from rfl]
  iapply (recv_step m ρ K c 1 (by decide) rfl rfl) $$ [HO Hc Hat]
  · isplitr; · iexact HR
    isplitl [HO]; · iexact HO
    isplitl [Hc] <;> iassumption
  iintro ⟨HO, Hz, Hn⟩
  rw [wp_ret]; imodintro
  iapply Hk
  isplitl [He]; · iexact He
  isplitl [HO]; · iexact HO
  isplitl [Hz]; · iexact Hz
  iexact Hn

/-- The first arrival added in, and the wait for the second. -/
theorem part7_wp (c : Dev nD) (w : BitVec 32) {Kt : _ → sProp 𝕄} :
    iprop(records m ρ K
        ∗ slotGot m ρ c 1
        ∗ ow c 0
        ∗ cred (tallyAt (recvCell c 2) () N)
        ∗ atPos ER (recvCell c 2) 0 ∅ 0
        ∗ (iprop(slotGot m ρ c 1 ∗ ow c 0 ∗ semVal (recvCell c 2) 0 ∗ slotGot m ρ c 2) -∗ Kt ⟨acc1 m ρ c, Scalar.subi (Scalar.addi (meW c) 8#32) 2#32, 8#32⟩))
      ⊢ wp frame (wpE (defs₀ (F := F)) 𝒱₀ (c : Thread nD τ) none) Set.univ
    (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) w (xv m ρ c) (wv m ρ c) (acc0 m ρ c) (k0_pay8 (meW c) lanes (wv m ρ c)) (k0_pay9 (meW c) lanes)) Kt := by
  simp only [k0_part7_eq_skeleton]; unfold k0_part7_skel
  simp only [semSignalWord, semWaitWord, Prog.lift, Prog.bind_op, Prog.bind_ret, Prog.pure_eq_ret, wp_deviceId]
  iintro ⟨#HR, Hg, HO, Hc, Hat, Hk⟩
  iapply (load_slot m ρ c 1 rfl (v := got0 m ρ (c - 1)) rfl) $$ Hg; iintro Hg
  iapply (load_slot m ρ c 1 rfl (v := got1 m ρ (c - 1)) rfl) $$ Hg; iintro Hg
  iapply (recv_step m ρ K c 2 (by decide) rfl rfl) $$ [HO Hc Hat]
  · isplitr; · iexact HR
    isplitl [HO]; · iexact HO
    isplitl [Hc] <;> iassumption
  iintro ⟨HO, Hz, Hn⟩
  rw [wp_ret]; imodintro
  iapply Hk
  isplitl [Hg]; · iexact Hg
  isplitl [HO]; · iexact HO
  isplitl [Hz]; · iexact Hz
  iexact Hn

/-- The second arrival added in. -/
theorem part8_wp (c : Dev nD) (w : BitVec 32) {Kt : _ → sProp 𝕄} :
    iprop(slotGot m ρ c 2
        ∗ (iprop(slotGot m ρ c 2) -∗ Kt ⟨acc2 m ρ c, Scalar.muli w 1#32⟩))
      ⊢ wp frame (wpE (defs₀ (F := F)) 𝒱₀ (c : Thread nD τ) none) Set.univ
    (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 w (xv m ρ c) lanes (wv m ρ c) (acc1 m ρ c) (Scalar.subi (Scalar.addi (meW c) 8#32) 2#32) 8#32) Kt := by
  simp only [k0_part8_eq_skeleton]; unfold k0_part8_skel
  simp only [semSignalWord, semWaitWord, Prog.lift, Prog.bind_op, Prog.bind_ret, Prog.pure_eq_ret, wp_deviceId]
  iintro ⟨Hg, Hk⟩
  iapply (load_slot m ρ c 2 rfl (v := got0 m ρ (c - 2)) rfl) $$ Hg; iintro Hg
  iapply (load_slot m ρ c 2 rfl (v := got1 m ρ (c - 2)) rfl) $$ Hg; iintro Hg
  rw [wp_ret]; imodintro
  iapply Hk
  iexact Hg

/-- The wait for the third arrival, and its first matrix added in. -/
theorem part9_wp (c : Dev nD) (w : BitVec 32) {Kt : _ → sProp 𝕄} :
    iprop(records m ρ K
        ∗ ow c 0
        ∗ cred (tallyAt (recvCell c 3) () N)
        ∗ atPos ER (recvCell c 3) 0 ∅ 0
        ∗ (iprop(ow c 0 ∗ semVal (recvCell c 3) 0 ∗ slotGot m ρ c 3) -∗ Kt ⟨k0_pay12 (meW c) (xv m ρ c) lanes (wv m ρ c), acc3a m ρ c⟩))
      ⊢ wp frame (wpE (defs₀ (F := F)) 𝒱₀ (c : Thread nD τ) none) Set.univ
    (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) (xv m ρ c) lanes (wv m ρ c) (acc2 m ρ c) w) Kt := by
  simp only [k0_part9_eq_skeleton]; unfold k0_part9_skel
  simp only [semSignalWord, semWaitWord, Prog.lift, Prog.bind_op, Prog.bind_ret, Prog.pure_eq_ret, wp_deviceId]
  iintro ⟨#HR, HO, Hc, Hat, Hk⟩
  iapply (recv_step m ρ K c 3 (by decide) rfl rfl) $$ [HO Hc Hat]
  · isplitr; · iexact HR
    isplitl [HO]; · iexact HO
    isplitl [Hc] <;> iassumption
  iintro ⟨HO, Hz, Hn⟩
  iapply (load_slot m ρ c 3 rfl (v := got0 m ρ (c - 3)) rfl) $$ Hn; iintro Hn
  rw [wp_ret]; imodintro
  iapply Hk
  isplitl [HO]; · iexact HO
  isplitl [Hz]; · iexact Hz
  iexact Hn

/-- The third arrival's second matrix added in, and the wait for the fourth. -/
theorem part10_wp (c : Dev nD) (w : BitVec 32) {Kt : _ → sProp 𝕄} :
    iprop(records m ρ K
        ∗ slotGot m ρ c 3
        ∗ ow c 0
        ∗ cred (tallyAt (recvCell c 4) () N)
        ∗ atPos ER (recvCell c 4) 0 ∅ 0
        ∗ (iprop(slotGot m ρ c 3 ∗ ow c 0 ∗ semVal (recvCell c 4) 0 ∗ slotGot m ρ c 4) -∗ Kt ⟨acc3 m ρ c, k0_pay15 (meW c) (xv m ρ c) lanes (wv m ρ c), k0_pay16 (meW c) (xv m ρ c) lanes (wv m ρ c)⟩))
      ⊢ wp frame (wpE (defs₀ (F := F)) 𝒱₀ (c : Thread nD τ) none) Set.univ
    (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) w (xv m ρ c) lanes (wv m ρ c) (k0_pay12 (meW c) (xv m ρ c) lanes (wv m ρ c)) (acc3a m ρ c)) Kt := by
  simp only [k0_part10_eq_skeleton]; unfold k0_part10_skel
  simp only [semSignalWord, semWaitWord, Prog.lift, Prog.bind_op, Prog.bind_ret, Prog.pure_eq_ret, wp_deviceId]
  iintro ⟨#HR, Hg, HO, Hc, Hat, Hk⟩
  iapply (load_slot m ρ c 3 rfl (v := got1 m ρ (c - 3)) rfl) $$ Hg; iintro Hg
  iapply (recv_step m ρ K c 4 (by decide) rfl rfl) $$ [HO Hc Hat]
  · isplitr; · iexact HR
    isplitl [HO]; · iexact HO
    isplitl [Hc] <;> iassumption
  iintro ⟨HO, Hz, Hn⟩
  rw [wp_ret]; imodintro
  iapply Hk
  isplitl [Hg]; · iexact Hg
  isplitl [HO]; · iexact HO
  isplitl [Hz]; · iexact Hz
  iexact Hn

/-- The fourth arrival added in, and the wait for the fifth. -/
theorem part11_wp (c : Dev nD) (w : BitVec 32) {Kt : _ → sProp 𝕄} :
    iprop(records m ρ K
        ∗ slotGot m ρ c 4
        ∗ ow c 0
        ∗ cred (tallyAt (recvCell c 5) () N)
        ∗ atPos ER (recvCell c 5) 0 ∅ 0
        ∗ (iprop(slotGot m ρ c 4 ∗ ow c 0 ∗ semVal (recvCell c 5) 0 ∗ slotGot m ρ c 5) -∗ Kt ⟨acc4 m ρ c, k0_pay18 (meW c) lanes (wv m ρ c), k0_pay19 (meW c) lanes⟩))
      ⊢ wp frame (wpE (defs₀ (F := F)) 𝒱₀ (c : Thread nD τ) none) Set.univ
    (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) w lanes (wv m ρ c) (acc3 m ρ c) (k0_pay15 (meW c) (xv m ρ c) lanes (wv m ρ c)) (k0_pay16 (meW c) (xv m ρ c) lanes (wv m ρ c))) Kt := by
  simp only [k0_part11_eq_skeleton]; unfold k0_part11_skel
  simp only [semSignalWord, semWaitWord, Prog.lift, Prog.bind_op, Prog.bind_ret, Prog.pure_eq_ret, wp_deviceId]
  iintro ⟨#HR, Hg, HO, Hc, Hat, Hk⟩
  iapply (load_slot m ρ c 4 rfl (v := got0 m ρ (c - 4)) rfl) $$ Hg; iintro Hg
  iapply (load_slot m ρ c 4 rfl (v := got1 m ρ (c - 4)) rfl) $$ Hg; iintro Hg
  iapply (recv_step m ρ K c 5 (by decide) rfl rfl) $$ [HO Hc Hat]
  · isplitr; · iexact HR
    isplitl [HO]; · iexact HO
    isplitl [Hc] <;> iassumption
  iintro ⟨HO, Hz, Hn⟩
  rw [wp_ret]; imodintro
  iapply Hk
  isplitl [Hg]; · iexact Hg
  isplitl [HO]; · iexact HO
  isplitl [Hz]; · iexact Hz
  iexact Hn

/-- The fifth arrival added in, and the wait for the sixth. -/
theorem part12_wp (c : Dev nD) (w : BitVec 32) {Kt : _ → sProp 𝕄} :
    iprop(records m ρ K
        ∗ slotGot m ρ c 5
        ∗ ow c 0
        ∗ cred (tallyAt (recvCell c 6) () N)
        ∗ atPos ER (recvCell c 6) 0 ∅ 0
        ∗ (iprop(slotGot m ρ c 5 ∗ ow c 0 ∗ semVal (recvCell c 6) 0 ∗ slotGot m ρ c 6) -∗ Kt ⟨acc5 m ρ c, Scalar.subi (Scalar.addi (meW c) 8#32) 6#32, 8#32⟩))
      ⊢ wp frame (wpE (defs₀ (F := F)) 𝒱₀ (c : Thread nD τ) none) Set.univ
    (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) w (xv m ρ c) (wv m ρ c) (acc4 m ρ c) (k0_pay18 (meW c) lanes (wv m ρ c)) (k0_pay19 (meW c) lanes)) Kt := by
  simp only [k0_part12_eq_skeleton]; unfold k0_part12_skel
  simp only [semSignalWord, semWaitWord, Prog.lift, Prog.bind_op, Prog.bind_ret, Prog.pure_eq_ret, wp_deviceId]
  iintro ⟨#HR, Hg, HO, Hc, Hat, Hk⟩
  iapply (load_slot m ρ c 5 rfl (v := got0 m ρ (c - 5)) rfl) $$ Hg; iintro Hg
  iapply (load_slot m ρ c 5 rfl (v := got1 m ρ (c - 5)) rfl) $$ Hg; iintro Hg
  iapply (recv_step m ρ K c 6 (by decide) rfl rfl) $$ [HO Hc Hat]
  · isplitr; · iexact HR
    isplitl [HO]; · iexact HO
    isplitl [Hc] <;> iassumption
  iintro ⟨HO, Hz, Hn⟩
  rw [wp_ret]; imodintro
  iapply Hk
  isplitl [Hg]; · iexact Hg
  isplitl [HO]; · iexact HO
  isplitl [Hz]; · iexact Hz
  iexact Hn

/-- The sixth arrival added in. -/
theorem part13_wp (c : Dev nD) (w : BitVec 32) {Kt : _ → sProp 𝕄} :
    iprop(slotGot m ρ c 6
        ∗ (iprop(slotGot m ρ c 6) -∗ Kt ⟨acc6 m ρ c, Scalar.muli w 1#32⟩))
      ⊢ wp frame (wpE (defs₀ (F := F)) 𝒱₀ (c : Thread nD τ) none) Set.univ
    (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 w (xv m ρ c) lanes (wv m ρ c) (acc5 m ρ c) (Scalar.subi (Scalar.addi (meW c) 8#32) 6#32) 8#32) Kt := by
  simp only [k0_part13_eq_skeleton]; unfold k0_part13_skel
  simp only [semSignalWord, semWaitWord, Prog.lift, Prog.bind_op, Prog.bind_ret, Prog.pure_eq_ret, wp_deviceId]
  iintro ⟨Hg, Hk⟩
  iapply (load_slot m ρ c 6 rfl (v := got0 m ρ (c - 6)) rfl) $$ Hg; iintro Hg
  iapply (load_slot m ρ c 6 rfl (v := got1 m ρ (c - 6)) rfl) $$ Hg; iintro Hg
  rw [wp_ret]; imodintro
  iapply Hk
  iexact Hg

/-- The wait for the seventh arrival, and its first matrix added in. -/
theorem part14_wp (c : Dev nD) (w : BitVec 32) {Kt : _ → sProp 𝕄} :
    iprop(records m ρ K
        ∗ ow c 0
        ∗ cred (tallyAt (recvCell c 7) () N)
        ∗ atPos ER (recvCell c 7) 0 ∅ 0
        ∗ (iprop(ow c 0 ∗ semVal (recvCell c 7) 0 ∗ slotGot m ρ c 7) -∗ Kt ⟨k0_pay22 (meW c) (xv m ρ c) lanes (wv m ρ c), acc7a m ρ c⟩))
      ⊢ wp frame (wpE (defs₀ (F := F)) 𝒱₀ (c : Thread nD τ) none) Set.univ
    (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (meW c) (xv m ρ c) lanes (wv m ρ c) (acc6 m ρ c) w) Kt := by
  simp only [k0_part14_eq_skeleton]; unfold k0_part14_skel
  simp only [semSignalWord, semWaitWord, Prog.lift, Prog.bind_op, Prog.bind_ret, Prog.pure_eq_ret, wp_deviceId]
  iintro ⟨#HR, HO, Hc, Hat, Hk⟩
  iapply (recv_step m ρ K c 7 (by decide) rfl rfl) $$ [HO Hc Hat]
  · isplitr; · iexact HR
    isplitl [HO]; · iexact HO
    isplitl [Hc] <;> iassumption
  iintro ⟨HO, Hz, Hn⟩
  iapply (load_slot m ρ c 7 rfl (v := got0 m ρ (c - 7)) rfl) $$ Hn; iintro Hn
  rw [wp_ret]; imodintro
  iapply Hk
  isplitl [HO]; · iexact HO
  isplitl [Hz]; · iexact Hz
  iexact Hn

/-- The seventh arrival's second matrix added in, and the waits for the first four departures. -/
theorem part15_wp (c : Dev nD) {Kt : _ → sProp 𝕄} :
    iprop(records m ρ K
        ∗ slotGot m ρ c 7
        ∗ ow c 0
        ∗ cred (tallyAt (sendCell c 1) () N)
        ∗ atPos ER (sendCell c 1) 0 ∅ 0
        ∗ cred (tallyAt (sendCell c 2) () N)
        ∗ atPos ER (sendCell c 2) 0 ∅ 0
        ∗ cred (tallyAt (sendCell c 3) () N)
        ∗ atPos ER (sendCell c 3) 0 ∅ 0
        ∗ cred (tallyAt (sendCell c 4) () N)
        ∗ atPos ER (sendCell c 4) 0 ∅ 0
        ∗ (iprop(slotGot m ρ c 7 ∗ ow c 0 ∗ semVal (sendCell c 1) 0 ∗ sendPts m ρ c 1 ∗ semVal (sendCell c 2) 0 ∗ sendPts m ρ c 2 ∗ semVal (sendCell c 3) 0 ∗ sendPts m ρ c 3 ∗ semVal (sendCell c 4) 0 ∗ sendPts m ρ c 4) -∗ Kt (outAt m ρ c)))
      ⊢ wp frame (wpE (defs₀ (F := F)) 𝒱₀ (c : Thread nD τ) none) Set.univ
    (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3 (k0_pay22 (meW c) (xv m ρ c) lanes (wv m ρ c)) (acc7a m ρ c)) Kt := by
  simp only [k0_part15_eq_skeleton]; unfold k0_part15_skel
  simp only [semSignalWord, semWaitWord, Prog.lift, Prog.bind_op, Prog.bind_ret, Prog.pure_eq_ret, wp_deviceId]
  iintro ⟨#HR, Hg, HO, Hc1, Ha1, Hc2, Ha2, Hc3, Ha3, Hc4, Ha4, Hk⟩
  iapply (load_slot m ρ c 7 rfl (v := got1 m ρ (c - 7)) rfl) $$ Hg; iintro Hg
  iapply (sent_step m ρ K c 1 (by decide) rfl) $$ [HO Hc1 Ha1]
  · isplitr; · iexact HR
    isplitl [HO]; · iexact HO
    isplitl [Hc1] <;> iassumption
  iintro ⟨HO, Hz1, Hp1⟩
  iapply (sent_step m ρ K c 2 (by decide) rfl) $$ [HO Hc2 Ha2]
  · isplitr; · iexact HR
    isplitl [HO]; · iexact HO
    isplitl [Hc2] <;> iassumption
  iintro ⟨HO, Hz2, Hp2⟩
  iapply (sent_step m ρ K c 3 (by decide) rfl) $$ [HO Hc3 Ha3]
  · isplitr; · iexact HR
    isplitl [HO]; · iexact HO
    isplitl [Hc3] <;> iassumption
  iintro ⟨HO, Hz3, Hp3⟩
  iapply (sent_step m ρ K c 4 (by decide) rfl) $$ [HO Hc4 Ha4]
  · isplitr; · iexact HR
    isplitl [HO]; · iexact HO
    isplitl [Hc4] <;> iassumption
  iintro ⟨HO, Hz4, Hp4⟩
  rw [wp_ret]; imodintro
  iapply Hk
  isplitl [Hg]; · iexact Hg
  isplitl [HO]; · iexact HO
  isplitl [Hz1]; · iexact Hz1
  isplitl [Hp1]; · iexact Hp1
  isplitl [Hz2]; · iexact Hz2
  isplitl [Hp2]; · iexact Hp2
  isplitl [Hz3]; · iexact Hz3
  isplitl [Hp3]; · iexact Hp3
  isplitl [Hz4]; · iexact Hz4
  iexact Hp4

end Parts

end Cert.Exchange

end
-- ==== Proof.Sound.lean ====
/-
# The whole body on one device

The fifteen parts in order, then the last three waits and the store of the result: the body run from the state a launch
gives a device to the state it leaves.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over the seven distances -/

omit [FloatOps F] in
/-- A family over the seven distances, member by member. -/
theorem fam7 (Φ : Fin 8 → sProp 𝕄) : bigSep K7 Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
/-- A family over the eight distances: the one at zero, and the rest. -/
theorem fam8 (Φ : Fin 8 → sProp 𝕄) : bigSep Finset.univ Φ = iprop(Φ 0 ∗ bigSep K7 Φ) := bigSep_peel (Finset.mem_univ 0) Φ

omit [FloatOps F] in
/-- Elements held whole are the same elements held at eight shares. -/
theorem eight_shares (ℓ : Loc nD τ sig) (I : Finset (Idx ℓ)) (f : Buf (Elt F) ℓ) :
    (ℓ ↦[I]{fullShare} f : sProp 𝕄) = bigSep Finset.univ (fun k : Fin 8 => (ℓ ↦[I]{ShareLeaves.leaf 3 fullShare k} f : sProp 𝕄)) :=
  ShareLeaves.pointsTo_leaves I f 3 fullShare
/-- The send buffer at its contents is its eight shares. -/
theorem send_shares (c : Dev nD) : bufAt c cc0_scratch1 (castAt m ρ c) = iprop(sendPts m ρ c 0 ∗ bigSep K7 (fun k => sendPts m ρ c k)) := by
  rw [← fam8 (fun k => sendPts m ρ c k)]
  refine Eq.trans ?_ (eight_shares ((sM : Memref sig .tc .vmem S2x256x512 .bf16).view.loc (c : Thread nD τ))
    (sM : Memref sig .tc .vmem S2x256x512 .bf16).view.set (castAt m ρ c))
  rw [show (sM : Memref sig .tc .vmem S2x256x512 .bf16).view.set = Finset.univ from View.set_whole _]

/-- All transfers started: nothing is owed. -/
theorem sends_done (c : Dev nD) {S : Finset (Fin 8)} (hS : S = ∅) : sendSt m ρ c S ⊢ ow c 0 := by
  subst hS; unfold sendSt; rw [owed_none]; iintro ⟨H, -⟩; iexact H

section Whole
variable (K : Dev nD × Fin 17 → ℕ)

set_option maxHeartbeats 2000000 in
/-- The body, from everything a device starts with to everything it ends with. -/
theorem body_wp (c : Dev nD) {Kt : PUnit → sProp 𝕄} :
    iprop(records m ρ K ∗ levAts L lv ∗ greetSt (F := F) c K7 ∗ cred (tallyAt (barCell c) () 7) ∗ atPos ER (barCell c) 0 ∅ 0
        ∗ bigSep K7 (fun k => dutyTok ER (sendCell c k) 0 0) ∗ bigSep K7 (fun k => dutyTok ER (recvCell (c + k) k) 0 0)
        ∗ bigSep K7 (fun k => cred (tallyAt (recvCell c k) () N)) ∗ bigSep K7 (fun k => atPos ER (recvCell c k) 0 ∅ 0)
        ∗ bigSep K7 (fun k => atPos ER (sendCell c k) 0 ∅ 0)
        ∗ (∃ f, bufAt c cc0_scratch1 f) ∗ bufAt c cc0_stg0_0 (xAt m ρ c) ∗ bufAt c cc0_stg1_0 (rwAt m ρ c) ∗ bufAt c cc0_stg2_0 (riAt m ρ c)
        ∗ bufAt c cc0_stg3_0 (ewAt m ρ c) ∗ (∃ f, bufAt c cc0_stg4_0 f)
        ∗ (iprop(ow c 0 ∗ semVal (barCell c) 0 ∗ bigSep K7 (fun k => semVal (sendCell c k) 0) ∗ bigSep K7 (fun k => semVal (recvCell c k) 0)
            ∗ bigSep K7 (fun k => slotGot m ρ c k) ∗ bufAt c cc0_scratch1 (castAt m ρ c)
            ∗ bufAt c cc0_stg0_0 (xAt m ρ c) ∗ bufAt c cc0_stg1_0 (rwAt m ρ c) ∗ bufAt c cc0_stg2_0 (riAt m ρ c)
            ∗ bufAt c cc0_stg3_0 (ewAt m ρ c) ∗ bufAt c cc0_stg4_0 (outAt m ρ c)) -∗ Kt ⟨⟩))
      ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3) Kt := by
  rw [fam7 (fun k => (cred (tallyAt (recvCell c k) () N) : sProp 𝕄)), fam7 (fun k => (atPos ER (recvCell c k) 0 ∅ 0 : sProp 𝕄)),
    fam7 (fun k => (atPos ER (sendCell c k) 0 ∅ 0 : sProp 𝕄)), fam7 (fun k => (semVal (sendCell c k) 0 : sProp 𝕄)),
    fam7 (fun k => (semVal (recvCell c k) 0 : sProp 𝕄)), fam7 (fun k => slotGot m ρ c k)]
  simp only [cc0_body_eq_skeleton]; unfold cc0_body_skel
  iintro ⟨#HR, #Hlev, HG, HcB, HaB, HtS, HtV, ⟨HcV1, HcV2, HcV3, HcV4, HcV5, HcV6, HcV7⟩, ⟨HaV1, HaV2, HaV3, HaV4, HaV5, HaV6, HaV7⟩,
    ⟨HaS1, HaS2, HaS3, HaS4, HaS5, HaS6, HaS7⟩, Hs, H0, H1, H2, H3, ⟨%fo, H4⟩, Hk⟩
  rw [wp_bind]
  iapply (part1_wp m ρ K c)
  isplitr; · iexact HR
  isplitl [HG]; · iexact HG
  isplitl [H3]; · iexact H3
  isplitl [Hs]; · iexact Hs
  iintro ⟨HG, H3, Hs⟩
  dsimp only
  ihave Hs := (Entails.of_eq (send_shares m ρ c)) $$ Hs
  icases Hs with ⟨Hs0, HsR⟩
  rw [wp_bind]
  iapply (part2_wp m ρ K c)
  isplitr; · iexact HR
  isplitr; · iexact Hlev
  isplitl [HcB]; · iexact HcB
  isplitl [HG]; · iexact HG
  isplitl [HaB]; · iexact HaB
  isplitl [HsR]; · iexact HsR
  isplitl [HtS]; · iexact HtS
  isplitl [HtV]; · iexact HtV
  iintro ⟨HzB, HcS1, HS⟩
  dsimp only
  rw [wp_bind]
  iapply (part3_wp m ρ K c _)
  isplitr; · iexact HR
  isplitl [HS]; · iexact HS
  iintro ⟨HcS2, HcS3, HcS4, HS⟩
  dsimp only
  rw [wp_bind]
  iapply (part4_wp m ρ K c _ _)
  isplitr; · iexact HR
  isplitl [HS]; · iexact HS
  iintro ⟨HcS5, HcS6, HcS7, HS⟩
  dsimp only
  ihave HO := (sends_done m ρ c (by decide)) $$ HS
  rw [wp_bind]
  iapply (part5_wp m ρ c)
  isplitl [H0]; · iexact H0
  isplitl [H1]; · iexact H1
  isplitl [H2]; · iexact H2
  iintro ⟨H0, H1, H2⟩
  dsimp only
  rw [wp_bind]
  iapply (part6_wp m ρ K c _)
  isplitr; · iexact HR
  isplitl [H3]; · iexact H3
  isplitl [HO]; · iexact HO
  isplitl [HcV1]; · iexact HcV1
  isplitl [HaV1]; · iexact HaV1
  iintro ⟨H3, HO, HzV1, Hg1⟩
  dsimp only
  rw [wp_bind]
  iapply (part7_wp m ρ K c _)
  isplitr; · iexact HR
  isplitl [Hg1]; · iexact Hg1
  isplitl [HO]; · iexact HO
  isplitl [HcV2]; · iexact HcV2
  isplitl [HaV2]; · iexact HaV2
  iintro ⟨Hg1, HO, HzV2, Hg2⟩
  dsimp only
  rw [wp_bind]
  iapply (part8_wp m ρ c _)
  isplitl [Hg2]; · iexact Hg2
  iintro Hg2
  dsimp only
  rw [wp_bind]
  iapply (part9_wp m ρ K c _)
  isplitr; · iexact HR
  isplitl [HO]; · iexact HO
  isplitl [HcV3]; · iexact HcV3
  isplitl [HaV3]; · iexact HaV3
  iintro ⟨HO, HzV3, Hg3⟩
  dsimp only
  rw [wp_bind]
  iapply (part10_wp m ρ K c _)
  isplitr; · iexact HR
  isplitl [Hg3]; · iexact Hg3
  isplitl [HO]; · iexact HO
  isplitl [HcV4]; · iexact HcV4
  isplitl [HaV4]; · iexact HaV4
  iintro ⟨Hg3, HO, HzV4, Hg4⟩
  dsimp only
  rw [wp_bind]
  iapply (part11_wp m ρ K c _)
  isplitr; · iexact HR
  isplitl [Hg4]; · iexact Hg4
  isplitl [HO]; · iexact HO
  isplitl [HcV5]; · iexact HcV5
  isplitl [HaV5]; · iexact HaV5
  iintro ⟨Hg4, HO, HzV5, Hg5⟩
  dsimp only
  rw [wp_bind]
  iapply (part12_wp m ρ K c _)
  isplitr; · iexact HR
  isplitl [Hg5]; · iexact Hg5
  isplitl [HO]; · iexact HO
  isplitl [HcV6]; · iexact HcV6
  isplitl [HaV6]; · iexact HaV6
  iintro ⟨Hg5, HO, HzV6, Hg6⟩
  dsimp only
  rw [wp_bind]
  iapply (part13_wp m ρ c _)
  isplitl [Hg6]; · iexact Hg6
  iintro Hg6
  dsimp only
  rw [wp_bind]
  iapply (part14_wp m ρ K c _)
  isplitr; · iexact HR
  isplitl [HO]; · iexact HO
  isplitl [HcV7]; · iexact HcV7
  isplitl [HaV7]; · iexact HaV7
  iintro ⟨HO, HzV7, Hg7⟩
  dsimp only
  rw [wp_bind]
  iapply (part15_wp m ρ K c)
  isplitr; · iexact HR
  isplitl [Hg7]; · iexact Hg7
  isplitl [HO]; · iexact HO
  isplitl [HcS1]; · iexact HcS1
  isplitl [HaS1]; · iexact HaS1
  isplitl [HcS2]; · iexact HcS2
  isplitl [HaS2]; · iexact HaS2
  isplitl [HcS3]; · iexact HcS3
  isplitl [HaS3]; · iexact HaS3
  isplitl [HcS4]; · iexact HcS4
  isplitl [HaS4]; · iexact HaS4
  iintro ⟨Hg7, HO, HzS1, Hp1, HzS2, Hp2, HzS3, Hp3, HzS4, Hp4⟩
  simp only [Prog.lift, Prog.bind_op, Prog.bind_ret, Prog.pure_eq_ret]
  iapply (sent_step m ρ K c 5 (by decide) rfl) $$ [HO HcS5 HaS5]
  · isplitr; · iexact HR
    isplitl [HO]; · iexact HO
    isplitl [HcS5] <;> iassumption
  iintro ⟨HO, HzS5, Hp5⟩
  iapply (sent_step m ρ K c 6 (by decide) rfl) $$ [HO HcS6 HaS6]
  · isplitr; · iexact HR
    isplitl [HO]; · iexact HO
    isplitl [HcS6] <;> iassumption
  iintro ⟨HO, HzS6, Hp6⟩
  iapply (sent_step m ρ K c 7 (by decide) rfl) $$ [HO HcS7 HaS7]
  · isplitr; · iexact HR
    isplitl [HO]; · iexact HO
    isplitl [HcS7] <;> iassumption
  iintro ⟨HO, HzS7, Hp7⟩
  iapply (wp_load 𝒱₀ (c : Thread nD τ) none Set.univ (m := Memref.whole cc0_stg4_0) (Finset.subset_univ _)) $$ H4; iintro H4
  iapply (wp_store 𝒱₀ (c : Thread nD τ) none Set.univ (m := Memref.whole cc0_stg4_0) (r := rOut) (Mk := Finset.univ) (Finset.subset_univ _)) $$ H4; iintro H4
  rw [show ((Memref.whole cc0_stg4_0).access rOut : View sig .tc _ _ _).write (Elt F) fo (outAt m ρ c) Finset.univ = outAt m ρ c
    from Memref.write_access_unit_zero_univ (Elt F) cc0_stg4_0 hz2 _ fo _]
  rw [wp_ret]; imodintro
  iapply Hk
  isplitl [HO]; · iexact HO
  isplitl [HzB]; · iexact HzB
  isplitl [HzS1 HzS2 HzS3 HzS4 HzS5 HzS6 HzS7]
  · isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    iexact HzS7
  isplitl [HzV1 HzV2 HzV3 HzV4 HzV5 HzV6 HzV7]
  · isplitl [HzV1]; · iexact HzV1
    isplitl [HzV2]; · iexact HzV2
    isplitl [HzV3]; · iexact HzV3
    isplitl [HzV4]; · iexact HzV4
    isplitl [HzV5]; · iexact HzV5
    isplitl [HzV6]; · iexact HzV6
    iexact HzV7
  isplitl [Hg1 Hg2 Hg3 Hg4 Hg5 Hg6 Hg7]
  · isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hs0 Hp1 Hp2 Hp3 Hp4 Hp5 Hp6 Hp7]
  · rw [send_shares m ρ c, fam7 (fun k => sendPts m ρ c k)]
    isplitl [Hs0]; · iexact Hs0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    iexact Hp7
  isplitl [H0]; · iexact H0
  isplitl [H1]; · iexact H1
  isplitl [H2]; · iexact H2
  isplitl [H3]; · iexact H3
  iexact H4

end Whole

end Cert.Exchange

end
-- ==== Proof.Point.lean ====
/-
# The kernel's one point

What a device's kernel starts from and ends with, and the body obligation of its single grid point.
-/
module

public import proofs.«01_k».proof.Proof.Sound

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A family over the seventeen semaphores: the barrier's, the eight send ones, the eight receive ones. -/
theorem fam17 (Φ : Fin 17 → sProp 𝕄) :
    bigSep Finset.univ Φ = iprop(Φ 0 ∗ bigSep Finset.univ (fun k : Fin 8 => Φ (iSend k)) ∗ bigSep Finset.univ (fun k : Fin 8 => Φ (iRecv k))) := by
  have hA (P Q R : sProp 𝕄) : BI.sep (BI.sep P Q) R = BI.sep P (BI.sep Q R) := BI.equiv_iff.mp ⟨BI.sep_assoc, BI.sep_assoc'⟩
  rw [bigSep_univ_eq_bigSepL [0, 1, 2, 3, 4, 5, 6, 7, 8, 9, 10, 11, 12, 13, 14, 15, 16] (by decide) (by decide) Φ,
    bigSep_univ_eq_bigSepL [0, 1, 2, 3, 4, 5, 6, 7] (by decide) (by decide) (fun k : Fin 8 => Φ (iSend k)),
    bigSep_univ_eq_bigSepL [0, 1, 2, 3, 4, 5, 6, 7] (by decide) (by decide) (fun k : Fin 8 => Φ (iRecv k))]
  simp only [bigSepL_cons_cons, bigSepL_singleton]
  show _ = BI.sep _ (BI.sep _ _)
  simp only [hA]
  rfl

/-! ## The landing buffer, cut into its slots and joined back -/

omit [FloatOps F] in
/-- The landing buffer is cut into the seven slots that are handed out, the one that stays, and what no slot covers. -/
theorem slots_out (c : Dev nD) :
    iprop(∃ f, bufAt (F := F) c cc0_scratch0 f)
      ⊢ iprop(bigSep K7 (fun k => slotEx (F := F) c (-k)) ∗ slotEx (F := F) c (-0)
          ∗ ∃ f, (c : Thread nD τ).loc cc0_scratch0 ↦[Ring.restOf (ℓ := (c : Thread nD τ).loc cc0_scratch0) slotI]{fullShare} f) := by
  iintro H
  ihave H := (Ring.fam_split_ex (ℓ := (c : Thread nD τ).loc cc0_scratch0) slotI slotI_disjoint (q := fullShare)) $$ H
  icases H with ⟨Hs, Hr⟩
  ihave Hs := (show bigSep Finset.univ (fun k : Fin 8 => iprop(∃ f, (c : Thread nD τ).loc cc0_scratch0 ↦[slotI k]{fullShare} f))
    ⊢ iprop(slotEx (F := F) c (-0) ∗ bigSep K7 (fun k => slotEx (F := F) c (-k))) from
      (Entails.of_eq ((bigSep_univ_equiv (Equiv.neg (Fin 8)) (fun k => slotEx (F := F) c k)).trans (fam8 (fun k => slotEx (F := F) c (-k)))))) $$ Hs
  icases Hs with ⟨H0, Hs⟩
  isplitl [Hs]; · iexact Hs
  isplitl [H0]; · iexact H0
  iexact Hr

/-- A filled slot is a slot at some contents. -/
theorem slot_forget (c : Dev nD) (k : Fin 8) : slotGot m ρ c k ⊢ slotEx (F := F) c k := by
  unfold slotGot slotEx heldEx owns
  iintro ⟨%f, -, H⟩
  iexists f; iexact H

/-- The seven filled slots, the one that stayed and the rest are the landing buffer again. -/
theorem slots_in (c : Dev nD) :
    iprop(bigSep K7 (fun k => slotGot m ρ c k) ∗ slotEx (F := F) c (-0)
          ∗ ∃ f, (c : Thread nD τ).loc cc0_scratch0 ↦[Ring.restOf (ℓ := (c : Thread nD τ).loc cc0_scratch0) slotI]{fullShare} f)
      ⊢ iprop(∃ f, bufAt (F := F) c cc0_scratch0 f) := by
  iintro ⟨Hs, H0, ⟨%r, Hr⟩⟩
  ihave Hs := (show bigSep K7 (fun k => slotGot m ρ c k) ⊢ bigSep K7 (fun k => slotEx (F := F) c k) from bigSep_mono fun k _ => slot_forget m ρ c k) $$ Hs
  iapply (Ring.fam_join (ℓ := (c : Thread nD τ).loc cc0_scratch0) slotI slotI_disjoint (q := fullShare) r)
  isplitl [Hs H0]
  · iapply (show iprop(slotEx (F := F) c 0 ∗ bigSep K7 (fun k => slotEx (F := F) c k))
      ⊢ bigSep Finset.univ (fun k : Fin 8 => iprop(∃ f, (c : Thread nD τ).loc cc0_scratch0 ↦[slotI k]{fullShare} f)) from
        Entails.of_eq (fam8 (fun k => slotEx (F := F) c k)).symm)
    isplitl [H0]; · iexact H0
    iexact Hs
  iexists r; iexact Hr

/-! ## What a device starts from and ends with -/

/-- The tokens device `c` pays with: its greetings', its departures' and its transfers' arrivals'. -/
def payToks (c : Dev nD) : sProp 𝕄 :=
  iprop(bigSep Finset.univ (fun k : Fin 8 => dutyTok ER (barCell (c + k)) 0 (-k)) ∗ bigSep Finset.univ (fun k : Fin 8 => dutyTok ER (sendCell c k) 0 0)
    ∗ bigSep Finset.univ (fun k : Fin 8 => dutyTok ER (recvCell (c + k) k) 0 0))
/-- Device `c`'s positions at its own cells, and those tokens. -/
def linear (c : Dev nD) : sProp 𝕄 :=
  iprop(bigSep Finset.univ (fun i : Fin 17 => atPos ER (kcell (c, i)) 0 ∅ 0) ∗ payToks (F := F) c)
/-- What the exchange gives device `c`: the shared records, and what is its own. -/
def ghost (c : Dev nD) : sProp 𝕄 := iprop(∃ K, records m ρ K ∗ linear (F := F) c)
/-- Device `c`'s claims on the others: seven greetings, and one arrival over each distance. -/
def claims (c : Dev nD) : sProp 𝕄 :=
  iprop(cred (tallyAt (barCell c) () 7) ∗ bigSep K7 (fun k => cred (tallyAt (recvCell c k) () N)))
/-- What device `c`'s body starts from. -/
def start (c : Dev nD) : sProp 𝕄 := iprop(ghost m ρ c ∗ claims (F := F) c ∗ levAts L lv)
/-- The kernel's two scratch buffers at some contents. -/
def scratch (c : Dev nD) : sProp 𝕄 := iprop((∃ f, bufAt (F := F) c cc0_scratch0 f) ∗ ∃ f, bufAt (F := F) c cc0_scratch1 f)
def Φ₀ (c : Dev nD) : sProp 𝕄 := iprop(start m ρ c ∗ scratch (F := F) c)
/-- Every semaphore of the exchange on device `c` reads zero. -/
def quiet (c : Dev nD) : sProp 𝕄 := bigSep Finset.univ (fun i : Fin 17 => semVal (kcell (c, i)) 0)
def Φ₁ (c : Dev nD) : sProp 𝕄 := iprop(scratch (F := F) c ∗ quiet (F := F) c)

/-- The kernel's pipeline on device `c`: what its windows' arrays hold, what its staging buffers hold after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => rwAt m ρ c
    | ⟨2, _⟩ => riAt m ρ c
    | ⟨3, _⟩ => ewAt m ρ c
    | ⟨4, _⟩ => outAt m ρ c
  Φ t := match t with
    | ⟨0, _⟩ => Φ₀ m ρ c
    | ⟨_ + 1, _⟩ => Φ₁ (F := F) c
  q _ := fullShare
  owed t := match t with
    | ⟨0, _⟩ => owed c K7 K7
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (F := F) c ∗ (dats m ρ 0 c).owesAt () t0_0.succ ∗ stg c cc0_stg0_0 (xAt m ρ c) ∗ stg c cc0_stg1_0 (rwAt m ρ c)
    ∗ stg c cc0_stg2_0 (riAt m ρ c) ∗ stg c cc0_stg3_0 (ewAt m ρ c) ∗ stg c cc0_stg4_0 (outAt m ρ c))

omit [FloatOps F] in
/-- A staging buffer at contents that are `X`. -/
theorem stg_intro (c : Dev nD) (b : Ref sig .tc) (X : b.ty.Contents (Elt F)) : bufAt c b X ⊢ stg c b X := by
  iintro H; iexists X; isplitr; · ipureintro; rfl
  iexact H

set_option maxHeartbeats 1000000 in
/-- The body takes what a device starts from to what it ends with. -/
theorem sound_body (c : Dev nD) :
    bodyPre m ρ c
      ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_stg4_0) (Memref.isWhole_whole _) (Memref.whole cc0_scratch0) (Memref.isWhole_whole _) (Memref.whole cc0_scratch1) (Memref.isWhole_whole _) cc0_scratch2 cc0_scratch3) (fun _ => bodyPost m ρ c) := by
  unfold bodyPre Φ₀ start ghost linear payToks claims scratch
  rw [fam17 (fun i => (atPos ER (kcell (c, i)) 0 ∅ 0 : sProp 𝕄)),
    fam8 (fun k => (dutyTok ER (barCell (c + k)) 0 (-k) : sProp 𝕄)), fam8 (fun k => (dutyTok ER (sendCell c k) 0 0 : sProp 𝕄)),
    fam8 (fun k => (dutyTok ER (recvCell (c + k) k) 0 0 : sProp 𝕄))]
  simp only [kcell_send, kcell_recv]
  rw [fam8 (fun k => (atPos ER (sendCell c k) 0 ∅ 0 : sProp 𝕄)), fam8 (fun k => (atPos ER (recvCell c k) 0 ∅ 0 : sProp 𝕄))]
  iintro ⟨⟨⟨⟨%K, #HR, ⟨HaB, ⟨HaS0, HaS⟩, HaV0, HaV⟩, ⟨-, HtB⟩, ⟨-, HtS⟩, -, HtV⟩, ⟨HcB, HcV⟩, #Hlev⟩, Hcomm, Hsend⟩,
    Ho, ⟨%d0, %g0, %hg0, H0⟩, ⟨%d1, %g1, %hg1, H1⟩, ⟨%d2, %g2, %hg2, H2⟩, ⟨%d3, %g3, %hg3, H3⟩, ⟨%d4, %g4, -, H4⟩⟩
  have h0 : g0 = xAt m ρ c := by rw [hg0]; unfold Dat.before; rw [if_pos (fetch0_0 t0_0)]; rfl
  have h1 : g1 = rwAt m ρ c := by rw [hg1]; unfold Dat.before; rw [if_pos (fetch0_1 t0_0)]; rfl
  have h2 : g2 = riAt m ρ c := by rw [hg2]; unfold Dat.before; rw [if_pos (fetch0_2 t0_0)]; rfl
  have h3 : g3 = ewAt m ρ c := by rw [hg3]; unfold Dat.before; rw [if_pos (fetch0_3 t0_0)]; rfl
  subst h0; subst h1; subst h2; subst h3
  unfold Dat.owesAt Pipeline.owesWithin
  icases Ho with ⟨%W, %hW, HO⟩
  rw [show (dats m ρ 0 c).owed t0_0.castSucc = owed c K7 K7 from rfl]
  ihave Hcomm := (slots_out (F := F) c) $$ Hcomm
  icases Hcomm with ⟨Hslots, Hsl0, Hrest⟩
  -- the two cells nobody pays close unused
  imod (Rounds.cell_close ER (Rd m ρ) (Set.mem_univ (K (c, iSend 0))) (fun h => h) (R := 0)
      (fun r _ => by rcases Nat.eq_zero_or_pos r with rfl | hr; exacts [duties_send0 m ρ c, duties_later m ρ (sendCell c 0) r hr])) $$ [HaS0] with HzS0
  · isplitr; · iapply (inv_send m ρ K c 0); iexact HR
    iexact HaS0
  imod (Rounds.cell_close ER (Rd m ρ) (Set.mem_univ (K (c, iRecv 0))) (fun h => h) (R := 0)
      (fun r _ => by rcases Nat.eq_zero_or_pos r with rfl | hr; exacts [duties_recv0 m ρ c, duties_later m ρ (recvCell c 0) r hr])) $$ [HaV0] with HzV0
  · isplitr; · iapply (inv_recv m ρ K c 0); iexact HR
    iexact HaV0
  iapply (body_wp m ρ K c)
  isplitr; · iexact HR
  isplitr; · iexact Hlev
  isplitl [HO HtB Hslots]
  · unfold greetSt ow
    isplitl [HO]; · iexists W; iexact HO
    isplitl [HtB]; · iexact HtB
    iexact Hslots
  isplitl [HcB]; · iexact HcB
  isplitl [HaB]; · iexact HaB
  isplitl [HtS]; · iexact HtS
  isplitl [HtV]; · iexact HtV
  isplitl [HcV]; · iexact HcV
  isplitl [HaV]; · iexact HaV
  isplitl [HaS]; · iexact HaS
  isplitl [Hsend]; · iexact Hsend
  isplitl [H0]; · iexact H0
  isplitl [H1]; · iexact H1
  isplitl [H2]; · iexact H2
  isplitl [H3]; · iexact H3
  isplitl [H4]; · iexists g4; iexact H4
  iintro ⟨HO, HzB, HzS, HzV, Hg, Hs, H0, H1, H2, H3, H4⟩
  unfold bodyPost Φ₁ scratch quiet Dat.owesAt Pipeline.owesWithin ow
  rw [fam17 (fun i => (semVal (kcell (c, i)) 0 : sProp 𝕄))]
  simp only [kcell_send, kcell_recv]
  rw [fam8 (fun k => (semVal (sendCell c k) 0 : sProp 𝕄)), fam8 (fun k => (semVal (recvCell c k) 0 : sProp 𝕄))]
  rw [show (dats m ρ 0 c).owed t0_0.succ = 0 from rfl]
  icases HO with ⟨%W', HO⟩
  isplitl [Hg Hsl0 Hrest Hs HzB HzS0 HzS HzV0 HzV]
  · isplitl [Hg Hsl0 Hrest Hs]
    · isplitl [Hg Hsl0 Hrest]
      · iapply (slots_in m ρ c)
        isplitl [Hg]; · iexact Hg
        isplitl [Hsl0]; · iexact Hsl0
        iexact Hrest
      iexists (castAt m ρ c); iexact Hs
    isplitl [HzB]; · iexact HzB
    isplitl [HzS0 HzS]
    · isplitl [HzS0]; · iexact HzS0
      iexact HzS
    isplitl [HzV0]; · iexact HzV0
    iexact HzV
  isplitl [HO]
  · iexists W'
    isplitr; · ipureintro; exact fun _ _ => Or.inl trivial
    iexact HO
  isplitl [H0]; · iapply (stg_intro c cc0_stg0_0 (xAt m ρ c)); iexact H0
  isplitl [H1]; · iapply (stg_intro c cc0_stg1_0 (rwAt m ρ c)); iexact H1
  isplitl [H2]; · iapply (stg_intro c cc0_stg2_0 (riAt m ρ c)); iexact H2
  isplitl [H3]; · iapply (stg_intro c cc0_stg3_0 (ewAt m ρ c)); iexact H3
  iapply (stg_intro c cc0_stg4_0 (outAt m ρ c)); iexact H4

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) :=
  bigSep_W0 Φ

set_option maxRecDepth 8000 in
/-- The obligation of the kernel's one point on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.Exchange

end
-- ==== Proof.Run.lean ====
/-
# The run

The exchange's ghost state is minted, dealt to the devices, and the eight kernels run: from any memory with every counter at
zero, every execution ends, with the result arrays at the computed contents and every counter at zero again.
-/
module

public import proofs.«01_k».proof.Proof.Point
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Minting -/

theorem csem_injective : Function.Injective csem := by decide
theorem kcell_injective : Function.Injective (kcell : Dev nD × Fin 17 → GSem nD τ sig) := by
  rintro ⟨c, i⟩ ⟨c', i'⟩ h
  have h1 : c = c' := congrArg (fun g : GSem nD τ sig => g.1.1) h
  have h2 : i = i' := csem_injective (congrArg Prod.snd h)
  rw [h1, h2]
/-- Every cell of the exchange. -/
def cells : Finset (GSem nD τ sig) := Finset.univ.map ⟨kcell, kcell_injective⟩

/-- A device's own cells' duties: which semaphore, and which duty on it. -/
abbrev tokLoc (jk : Fin 3 × Fin 8) : SemLoc sig × Fin 8 := match jk.1 with
  | 0 => (.reg barS, jk.2) | 1 => (.dma (sendS jk.2), 0) | 2 => (.dma (recvS jk.2), 0)
theorem tokLoc_injective : Function.Injective tokLoc := by decide +kernel
abbrev tokOf (x : Dev nD × (Fin 3 × Fin 8)) : GSem nD τ sig × ℕ × Fin 8 := (((x.1 : Thread nD τ), (tokLoc x.2).1), 0, (tokLoc x.2).2)
theorem tokOf_injective : Function.Injective tokOf := by
  rintro ⟨c, j⟩ ⟨c', j'⟩ h
  have h1 : c = c' := congrArg (fun g : GSem nD τ sig × ℕ × Fin 8 => g.1.1.1) h
  have h2 : j = j' := tokLoc_injective (Prod.ext (congrArg (fun g : GSem nD τ sig × ℕ × Fin 8 => g.1.2) h)
    (congrArg (fun g : GSem nD τ sig × ℕ × Fin 8 => g.2.2) h))
  rw [h1, h2]
/-- Every duty's token. -/
def tokens : Finset (GSem nD τ sig × ℕ × Fin 8) := Finset.univ.map ⟨tokOf, tokOf_injective⟩

/-- The ghost state at launch: the pipeline's, and the exchange's. -/
def u₀ : UU := (initOf (Pipeline.cells cfgs cellOf_inj) (Pipeline.launchToks cfgs cellOf_inj), initOf cells tokens)

/-- The tokens of the duties on device `c`'s own cells. -/
def toks (c : Dev nD) : sProp 𝕄 :=
  iprop(bigSep Finset.univ (fun k : Fin 8 => dutyTok ER (barCell c) 0 k) ∗ bigSep Finset.univ (fun k : Fin 8 => dutyTok ER (sendCell c k) 0 0)
    ∗ bigSep Finset.univ (fun k : Fin 8 => dutyTok ER (recvCell c k) 0 0))
/-- What minting gives device `c`. -/
def minted (c : Dev nD) : sProp 𝕄 :=
  iprop((bigSep Finset.univ fun i : Fin 17 => roundState ER (Rd m ρ) (kcell (c, i)) 0)
    ∗ (bigSep Finset.univ fun i : Fin 17 => iprop(atPos ER (kcell (c, i)) 0 ∅ 0 ∗ reached ER (kcell (c, i)) 0)) ∗ toks (F := F) c)

theorem mint : BI.own (ER (initOf cells tokens)) ⊢ (|==> bigSep Finset.univ (minted m ρ) : sProp 𝕄) := by
  have hX (Φ : GSem nD τ sig → sProp 𝕄) : bigSep cells Φ = bigSep Finset.univ fun c : Dev nD => bigSep Finset.univ fun i : Fin 17 => Φ (kcell (c, i)) := by
    unfold cells; rw [bigSep_map, bigSep_univ_prod]; rfl
  have hT : bigSep tokens (fun x => (dutyTok ER x.1 x.2.1 x.2.2 : sProp 𝕄)) = bigSep Finset.univ fun c : Dev nD => toks (F := F) c := by
    unfold tokens; rw [bigSep_map, bigSep_univ_prod]
    refine bigSep_congr fun c _ => ?_
    unfold toks
    rw [bigSep_univ_prod, bigSep_univ_eq_bigSepL [0, 1, 2] (by decide) (by decide)]
    rfl
  iintro HX
  imod (Rounds.fund ER (Rd m ρ) cells tokens) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hat' Hr']
  · isplitl [Hat'] <;> iassumption
  iexact Htok'

/-! ## The semaphores at zero -/

omit [FloatOps F] in
/-- A family over the seventeen semaphores: the barrier's, and the sixteen scoped ones. -/
theorem fam_scoped (Φ : SemLoc sig → sProp 𝕄) :
    bigSep Finset.univ (fun i : Fin 17 => Φ (csem i)) = iprop(bigSep Finset.univ (fun i : Fin 16 => Φ (osem i)) ∗ Φ (.reg barS)) := by
  rw [bigSep_univ_eq_bigSepL [1, 2, 3, 4, 5, 6, 7, 8, 9, 10, 11, 12, 13, 14, 15, 16, 0] (by decide) (by decide) (fun i : Fin 17 => Φ (csem i)),
    bigSep_univ_eq_bigSepL [0, 1, 2, 3, 4, 5, 6, 7, 8, 9, 10, 11, 12, 13, 14, 15] (by decide) (by decide) (fun i : Fin 16 => Φ (osem i))]
  have hA (P Q R : sProp 𝕄) : BI.sep (BI.sep P Q) R = BI.sep P (BI.sep Q R) := BI.equiv_iff.mp ⟨BI.sep_assoc, BI.sep_assoc'⟩
  simp only [bigSepL_cons_cons, bigSepL_singleton]
  show _ = BI.sep _ _
  simp only [hA]
  rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The scoped semaphores and the unscoped one, all at zero, are the exchange's seventeen at zero. -/
theorem quiet_eq (c : Dev nD) :
    quiet (F := F) c = iprop(Pipeline.ownSems0 (Ix := Unit) (Name := ℕ) (U := UU) (Lvl := ℕ) (Val := Elt F) (τ := τ) osem c ∗ unscopedSems0 c) := by
  rw [unscopedSems0_eq]; exact fam_scoped (fun s => (semVal ((c : Thread nD τ), s) 0 : sProp 𝕄))

theorem core_alloc (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks (F := F) c) := by
  unfold minted
  iintro ⟨Hos, Hus, Hst, Hat, Htok⟩
  ihave Hv := (Entails.of_eq (quiet_eq (F := F) c).symm) $$ [Hos Hus]
  · isplitl [Hos] <;> iassumption
  imod (show iprop(quiet (F := F) c ∗ bigSep Finset.univ fun i : Fin 17 => roundState ER (Rd m ρ) (kcell (c, i)) 0)
      ⊢ (|={Set.univ}=> bigSep Finset.univ fun i => iprop(∃ κ : ℕ, cellInv ER (Rd m ρ) κ (kcell (c, i))) : sProp 𝕄) from by
        unfold quiet
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- A greeting over distance `k` from device `c` is the duty `-k` on the device at distance `k`. -/
def greetTo : Dev nD × Fin 8 ≃ Dev nD × Fin 8 where
  toFun x := (x.1 + x.2, -x.2)
  invFun x := (x.1 + x.2, -x.2)
  left_inv := by decide +kernel
  right_inv := by decide +kernel
/-- A transfer over distance `k` from device `c` arrives at the device at distance `k`. -/
def sendTo : Dev nD × Fin 8 ≃ Dev nD × Fin 8 where
  toFun x := (x.1 + x.2, x.2)
  invFun x := (x.1 - x.2, x.2)
  left_inv := by decide +kernel
  right_inv := by decide +kernel

omit [FloatOps F] in
/-- The tokens of the devices' own cells are the tokens the devices pay with. -/
theorem toks_around : (bigSep Finset.univ fun c : Dev nD => (toks c : sProp 𝕄)) ⊢ bigSep Finset.univ fun c : Dev nD => payToks (F := F) c := by
  unfold toks payToks
  rw [bigSep_sep', bigSep_sep', bigSep_sep', bigSep_sep',
    ← bigSep_univ_prod (fun x : Dev nD × Fin 8 => (dutyTok ER (barCell x.1) 0 x.2 : sProp 𝕄)),
    ← bigSep_univ_prod (fun x : Dev nD × Fin 8 => (dutyTok ER (recvCell x.1 x.2) 0 0 : sProp 𝕄)),
    ← bigSep_univ_prod (fun x : Dev nD × Fin 8 => (dutyTok ER (barCell (x.1 + x.2)) 0 (-x.2) : sProp 𝕄)),
    ← bigSep_univ_prod (fun x : Dev nD × Fin 8 => (dutyTok ER (recvCell (x.1 + x.2) x.2) 0 0 : sProp 𝕄)),
    bigSep_univ_equiv greetTo (fun x : Dev nD × Fin 8 => (dutyTok ER (barCell x.1) 0 x.2 : sProp 𝕄)),
    bigSep_univ_equiv sendTo (fun x : Dev nD × Fin 8 => (dutyTok ER (recvCell x.1 x.2) 0 0 : sProp 𝕄))]
  exact BI.Entails.refl _

theorem ghost_intro (K : Dev nD × Fin 17 → ℕ) (c : Dev nD) : iprop(records m ρ K ∗ linear (F := F) c) ⊢ ghost m ρ c := by
  unfold ghost; iintro H; iexists K; iexact H

omit [FloatOps F] in
/-- What holds for good may be used at every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks (F := F) c) : sProp 𝕄)
      ⊢ bigSep Finset.univ (ghost m ρ) := by
  rw [bigSep_sep', bigSep_sep', ← bigSep_univ_prod (fun ci : Dev nD × Fin 17 => iprop(∃ κ : ℕ, cellInv ER (Rd m ρ) κ (kcell ci))),
    bigSep_congr (s := Finset.univ) (fun (c : Dev nD) _ => bigSep_sep' Finset.univ (fun i : Fin 17 => (atPos ER (kcell (c, i)) 0 ∅ 0 : sProp 𝕄)) (fun i => reached ER (kcell (c, i)) 0)),
    bigSep_sep', ← bigSep_univ_prod (fun ci : Dev nD × Fin 17 => (reached ER (kcell ci) 0 : sProp 𝕄))]
  iintro ⟨HI, ⟨Hat, #HR⟩, Htok⟩
  ihave HK := (BI.bigSep_exists_pi Finset.univ (fun (ci : Dev nD × Fin 17) (κ : ℕ) => (cellInv ER (Rd m ρ) κ (kcell ci) : sProp 𝕄))) $$ HI
  icases HK with ⟨%K, #HI⟩
  ihave Htk := (toks_around (F := F)) $$ Htok
  iapply (with_persistent (R := records m ρ K) fun c _ => ghost_intro m ρ K c)
  isplitr
  · unfold records; isplitl; · iexact HI
    iexact HR
  · iapply ((Entails.of_eq (bigSep_sep' Finset.univ (fun c : Dev nD => bigSep Finset.univ fun i : Fin 17 => (atPos ER (kcell (c, i)) 0 ∅ 0 : sProp 𝕄)) payToks).symm).trans
      (bigSep_mono fun c _ => show _ ⊢ linear (F := F) c from BI.Entails.refl _))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The credit at launch -/

abbrev O₀ (c : Dev nD) : CellTallies nD τ sig Unit := owed c K7 K7

theorem bar_eq_iff {a b : Dev nD} : Iff (barCell a = barCell b) (a = b) :=
  ⟨fun h => congrArg (fun g : GSem nD τ sig => g.1.1) h, fun h => h ▸ rfl⟩
theorem recvS_injective : Function.Injective recvS := by decide
theorem recv_eq_iff {a b : Dev nD} {k k' : Fin 8} : Iff (recvCell a k = recvCell b k') (a = b ∧ k = k') :=
  ⟨fun h => ⟨congrArg (fun g : GSem nD τ sig => g.1.1) h, recvS_injective (SemLoc.dma.inj (congrArg Prod.snd h))⟩, fun ⟨h, h'⟩ => h ▸ h' ▸ rfl⟩
theorem recv_ne_bar {a b : Dev nD} {k : Fin 8} : recvCell a k ≠ barCell b := fun h => by cases congrArg Prod.snd h

/-- What device `d` owes device `c`'s barrier: one greeting if another device. -/
theorem owed_bar (d c : Dev nD) : O₀ d (barCell c) () = ∑ k ∈ K7, if c = d + k then 1 else 0 := by
  unfold O₀ owed
  rw [Pi.add_apply, Finsupp.add_apply, Finset.sum_apply, Finset.sum_apply, Finsupp.finset_sum_apply, Finsupp.finset_sum_apply,
    Finset.sum_eq_zero fun k _ => by rw [tallyAt_ne_cell (fun h => recv_ne_bar h.symm), Finsupp.zero_apply], zero_add]
  refine Finset.sum_congr rfl fun k _ => ?_
  rw [tallyAt_apply]
  simp only [bar_eq_iff, and_true]

/-- What device `d` owes device `c`'s arrival over distance `k`: the transfer's bytes if `c` is at that distance. -/
theorem owed_recv (d c : Dev nD) (k : Fin 8) : O₀ d (recvCell c k) () = (∑ j ∈ K7, if c = d + j ∧ k = j then 1 else 0) * N := by
  unfold O₀ owed
  rw [Pi.add_apply, Finsupp.add_apply, Finset.sum_apply, Finset.sum_apply, Finsupp.finset_sum_apply, Finsupp.finset_sum_apply,
    Finset.sum_eq_zero (s := K7) (f := fun j => (tallyAt (barCell (d + j)) () 1 : CellTallies nD τ sig Unit) (recvCell c k) ())
      (fun j _ => by rw [tallyAt_ne_cell recv_ne_bar, Finsupp.zero_apply]), add_zero, Finset.sum_mul]
  refine Finset.sum_congr rfl fun j _ => ?_
  rw [tallyAt_apply, ite_mul, one_mul, zero_mul]
  simp only [recv_eq_iff, and_true]

theorem bar_total : ∀ c : Dev nD, ∑ d : Dev nD, ∑ k ∈ K7, (if c = d + k then 1 else 0) = 7 := by decide +kernel
theorem recv_total : ∀ (c : Dev nD) (k : Fin 8), k ≠ 0 → ∑ d : Dev nD, ∑ j ∈ K7, (if c = d + j ∧ k = j then 1 else 0) = 1 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact bar_total c

theorem launch_recv (c : Dev nD) (k : Fin 8) (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.sum_mul, recv_total c k hk, one_mul]

omit [FloatOps F] in
/-- A device's credit at launch holds its claims on the others. -/
theorem creds (c : Dev nD) : (Pipeline.launchCred O₀ c : sProp 𝕄) ⊢ claims (F := F) c := by
  unfold Pipeline.launchCred claims
  refine (bigSep_subset (Finset.subset_univ (Finset.univ.map ⟨csem, csem_injective⟩))).trans ?_
  rw [bigSep_map]
  refine (Entails.of_eq (fam17 (fun i => (cred (tallyOn (kcell (c, i)) (launchCredit (Pipeline.owing O₀) 0 (kcell (c, i)))) : sProp 𝕄)))).trans ?_
  simp only [kcell_recv]
  rw [kcell_bar, launch_bar, fam8 (fun k => (cred (tallyOn (recvCell c k) (launchCredit (Pipeline.owing O₀) 0 (recvCell c k))) : sProp 𝕄)),
    bigSep_congr (s := K7) fun k hk => by rw [launch_recv c k (mem_K7.mp hk)]]
  iintro ⟨HB, -, -, HV⟩
  isplitl [HB]; · iexact HB
  iexact HV

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [quiet_eq]
  iintro ⟨Hr, Ho, Hu⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 13 := by fin_cases w <;> fin_cases s <;> decide
    rcases t with ⟨_ | _, ht⟩
    · exact mayWait_stage c _ hq K7 K7
    · show _ ⊢ MayWait (c : Thread nD τ) _ () 0
      rw [← owed_none c]; exact mayWait_stage c _ hq ∅ ∅

/-! ## The run -/

/-- What a window's array on device `c` holds after the run. -/
def finalA (c : Dev nD) (w : Fin cfg0.W) : Buf (Elt F) ((cfg0.win w).arr.view.loc (c : Thread nD τ)) := (dats m ρ 0 c).arrAt w cfg0.N

/-- Every window's array holds that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every weakly fair execution of the eight kernels terminates,
    and every final state has every window's array at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m ρ) (G' := ghost m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Frames.lean ====
/-
# What the run leaves

The run of the eight kernels, read at the five arrays of the launch: the four arguments hold what they held, the result holds
the kernel's computed contents; and every counter is at zero. The three frames of the certificate are instances of it or of
the reference's own run.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An argument's array ends as it began. -/
theorem final_arg (c : Dev nD) (w : Fin cfg0.W) (h : (cfg0.win w).isOut = false) :
    finalA m ρ c w = (s₀ m ρ).mem ((cfg0.win w).arr.view.loc (c : Thread nD τ)) := (dats (F := F) m ρ 0 c).arrAt_in w h _

/-- The result array's one block, read back, is what the body left in its staging buffer. -/
theorem final_block (c : Dev nD) : (win0_4.blk (0 : Fin 1)).view.read (Elt F) (finalA m ρ c (4 : Fin 5)) = outAt m ρ c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

/-- That block is the whole array. -/
theorem final_out (c : Dev nD) : finalA m ρ c (4 : Fin 5) = outAt m ρ c := by
  have hz : (fun a => (win0_4.index (0 : Fin 1)) a * main_v1.ty.shape.size a) = fun _ => 0 := funext fun a => by fin_cases a <;> decide
  exact (Memref.read_access_unit_zero (Elt F) main_v1 hz (fun a => by fin_cases a <;> decide) _).symm.trans (final_block m ρ c)

/-- Each argument's one block is its whole array too: what the body finds in its staging buffers is the arguments. -/
theorem xAt_eq (c : Dev nD) : xAt m ρ c = m ((c : Thread nD τ).loc main_arg0) :=
  Memref.read_access_unit_zero (Elt F) main_arg0 (funext fun a => by fin_cases a <;> decide) (fun a => by fin_cases a <;> decide) _
theorem rwAt_eq (c : Dev nD) : rwAt m ρ c = m ((c : Thread nD τ).loc main_arg1) :=
  Memref.read_access_unit_zero (Elt F) main_arg1 (funext fun a => by fin_cases a <;> decide) (fun a => by fin_cases a <;> decide) _
theorem riAt_eq (c : Dev nD) : riAt m ρ c = m ((c : Thread nD τ).loc main_arg2) :=
  Memref.read_access_unit_zero (Elt F) main_arg2 (funext fun a => by fin_cases a <;> decide) (fun a => by fin_cases a <;> decide) _
theorem ewAt_eq (c : Dev nD) : ewAt m ρ c = m ((c : Thread nD τ).loc main_arg3) :=
  Memref.read_access_unit_zero (Elt F) main_arg3 (funext fun a => by fin_cases a <;> decide) (fun a => by fin_cases a <;> decide) _

/-- For any float values, from any memory with zero counters: every weakly fair execution of the eight kernels terminates
    without fault; the result of device `c` is then `outAt m ρ c`, its arguments are unchanged, and every counter is zero. -/
theorem run_values : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => ⟨(h.1 c (4 : Fin 5)).trans (final_out m ρ c),
    (h.1 c (0 : Fin 5)).trans (final_arg m ρ c _ rfl), (h.1 c (1 : Fin 5)).trans (final_arg m ρ c _ rfl),
    (h.1 c (2 : Fin 5)).trans (final_arg m ρ c _ rfl), (h.1 c (3 : Fin 5)).trans (final_arg m ρ c _ rfl)⟩, h.2⟩) (run_main m ρ)

/-- The kernel's two printings have the same bodies, … -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  obtain ⟨_ | k, h⟩ := l
  · obtain ⟨t, s⟩ := x
    rfl
  · exact absurd h (Nat.not_lt.2 (Nat.le_add_left _ _))

/-- … hence the same table of bodies and pipelines. -/
theorem tables_eq : Cert.Kernel.defs (F := F) = Cert.KernelIdeal.defs (F := F) := congrArg (Pipeline.defs _) bodies_eq

/-- The kernel as it runs on the machine's own floats terminates without fault, leaves its arguments, and ends quiescent. -/
theorem frame_kernel : Cert.quiescent_Kernel (hKernel := Cert.Kernel.Gen.facts) := fun m ρ _ => by
  rw [tables_eq]
  exact (θ_run Cert.KernelIdeal.defs _ _).mono (fun _ h => And.intro (fun c => (h.1 c).2) h.2) (run_values (F := Bits) m ρ)

/-- So does its idealization. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_values (F := Ideal) m ρ)

/-- So does the reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Mixture.lean ====
/-
# A mixture of sixteen experts, two of them chosen

The mathematics both programs compute, over the extended reals: a softmax of finite scores is a family of positive reals;
gates that are zero but at the two chosen experts, divided by their sum, weigh sixteen outputs as the two chosen gates,
divided by theirs, weigh two; and a nonnegative real weight may be applied before or after a contraction.
-/
module

public import Idealize.ShloMosaic.PureOps
public import Idealize.ShloMosaic.Lib.Pointwise

@[expose] public section

noncomputable section

namespace Cert.Mixture

open Idealize.ShloMosaic

/-- A finite sum of reals is a real. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a T h ih => rw [Finset.sum_insert h, Finset.sum_insert h, ih, EReal.coe_add]

/-- A product of contractions of finite entries is finite. -/
theorem contraction_real {n : ℕ} (x w : Fin n → EReal) (hx : ∀ d, ∃ r : ℝ, x d = r) (hw : ∀ d, ∃ r : ℝ, w d = r) :
    ∃ r : ℝ, ∑ d, x d * w d = r := by
  choose a ha using hx
  choose b hb using hw
  exact ⟨∑ d, a d * b d, by rw [← coe_sum]; exact Finset.sum_congr rfl fun d _ => by rw [ha, hb, EReal.coe_mul]⟩

/-- The greatest of a nonempty family of finite scores, from −∞, is finite. -/
theorem fold_max_real {n : ℕ} (s : Fin (n + 1) → EReal) (hs : ∀ e, ∃ r : ℝ, s e = r) : ∃ r : ℝ, Finset.univ.fold max ⊥ s = r := by
  have h : ∀ T : Finset (Fin (n + 1)), T.Nonempty → ∃ r : ℝ, T.fold max ⊥ s = r := by
    intro T hT
    induction hT using Finset.Nonempty.cons_induction with
    | singleton a => obtain ⟨r, hr⟩ := hs a; exact ⟨r, by simp [hr]⟩
    | cons a T ha _ ih =>
      obtain ⟨r, hr⟩ := hs a
      obtain ⟨q, hq⟩ := ih
      exact ⟨max r q, by rw [Finset.fold_cons, hr, hq]; exact (EReal.coe_strictMono.monotone.map_max).symm⟩
  exact h _ Finset.univ_nonempty

/-- The softmax of sixteen scores, at one of them. -/
def prob (s : Fin 16 → EReal) (e : Fin 16) : EReal :=
  Ideal.div (Ideal.exp (s e - Finset.univ.fold max ⊥ s)) (∑ k, Ideal.exp (s k - Finset.univ.fold max ⊥ s))

/-- A quotient of reals by a real that is not zero. -/
theorem div_real (a : ℝ) {b : ℝ} (hb : b ≠ 0) : Ideal.div (a : EReal) (b : EReal) = ((a / b : ℝ) : EReal) := by
  rw [Ideal.div_coe hb, ← EReal.coe_mul, mul_one_div]

/-- The softmax of finite scores is a family of positive reals. -/
theorem prob_real (s : Fin 16 → EReal) (hs : ∀ e, ∃ r : ℝ, s e = r) : ∃ q : Fin 16 → ℝ, (∀ e, 0 < q e) ∧ ∀ e, prob s e = q e := by
  obtain ⟨M, hM⟩ := fold_max_real s hs
  choose r hr using hs
  have he : ∀ e, Ideal.exp (s e - (M : EReal)) = ((Real.exp (r e - M) : ℝ) : EReal) := fun e => by
    rw [hr, ← EReal.coe_sub, Ideal.exp_coe]
  have hpos : 0 < ∑ k : Fin 16, Real.exp (r k - M) := Finset.sum_pos (fun k _ => Real.exp_pos _) Finset.univ_nonempty
  refine ⟨fun e => Real.exp (r e - M) / ∑ k : Fin 16, Real.exp (r k - M), fun e => div_pos (Real.exp_pos _) hpos, fun e => ?_⟩
  unfold prob
  rw [hM, he, Finset.sum_congr rfl fun k _ => he k, coe_sum, div_real _ hpos.ne']

/-- The gate of expert `e` when `e0` and `e1` are chosen, divided by the sum of all gates. -/
def gate (p : Fin 16 → EReal) (e0 e1 e : Fin 16) : EReal :=
  Ideal.div (if e = e0 ∨ e = e1 then p e else 0) (∑ k, if k = e0 ∨ k = e1 then p k else 0)

section Gates
variable {q : Fin 16 → ℝ} (hq : ∀ e, 0 < q e) (e0 e1 : Fin 16)
include hq

/-- The gates' sum is positive. -/
theorem total_pos : 0 < ∑ k : Fin 16, if k = e0 ∨ k = e1 then q k else 0 := by
  refine Finset.sum_pos' (fun k _ => ?_) ⟨e0, Finset.mem_univ _, ?_⟩
  · split
    · exact (hq k).le
    · exact le_rfl
  · rw [if_pos (Or.inl rfl)]; exact hq e0

/-- A gate of positive reals is a nonnegative real. -/
theorem gate_real (e : Fin 16) : gate (fun k => (q k : EReal)) e0 e1 e
    = (((if e = e0 ∨ e = e1 then q e else 0) / ∑ k : Fin 16, if k = e0 ∨ k = e1 then q k else 0 : ℝ) : EReal) := by
  have hc : ∀ k : Fin 16, (if k = e0 ∨ k = e1 then (q k : EReal) else 0) = ((if k = e0 ∨ k = e1 then q k else 0 : ℝ) : EReal) := fun k => by
    split <;> simp
  unfold gate
  rw [hc, Finset.sum_congr rfl fun k _ => hc k, coe_sum, div_real _ (total_pos hq e0 e1).ne']

theorem gate_nonneg (e : Fin 16) : 0 ≤ gate (fun k => (q k : EReal)) e0 e1 e := by
  rw [gate_real hq]
  refine EReal.coe_nonneg.2 (div_nonneg ?_ (total_pos hq e0 e1).le)
  split
  · exact (hq e).le
  · exact le_rfl

theorem gate_ne_top (e : Fin 16) : gate (fun k => (q k : EReal)) e0 e1 e ≠ ⊤ := by
  rw [gate_real hq]; exact EReal.coe_ne_top _

/-- Sixteen outputs weighed by the gates are the two chosen ones, weighed by the two chosen gates over their sum: also when
    one expert is chosen twice. -/
theorem mixture (Y : Fin 16 → EReal) :
    ∑ e, gate (fun k => (q k : EReal)) e0 e1 e * Y e
      = Ideal.div (q e0) ((q e0 : EReal) + q e1) * Y e0 + Ideal.div (q e1) ((q e0 : EReal) + q e1) * Y e1 := by
  have hs : (0 : ℝ) < q e0 + q e1 := add_pos (hq e0) (hq e1)
  rw [← EReal.coe_add, div_real _ hs.ne', div_real _ hs.ne']
  have hout : ∀ e, e ≠ e0 → e ≠ e1 → gate (fun k => (q k : EReal)) e0 e1 e * Y e = 0 := fun e h0 h1 => by
    rw [gate_real hq, if_neg (fun h => h.elim h0 h1), zero_div, EReal.coe_zero, zero_mul]
  by_cases h : e0 = e1
  · subst h
    have ht : (∑ k : Fin 16, if k = e0 ∨ k = e0 then q k else 0) = q e0 := by simp
    rw [Finset.sum_eq_single e0 (fun e _ he => hout e he he) (fun hn => absurd (Finset.mem_univ _) hn), gate_real hq,
      if_pos (Or.inl rfl), ht, div_self (hq e0).ne', ← EReal.right_distrib_of_nonneg (EReal.coe_nonneg.2 (div_pos (hq e0) hs).le)
        (EReal.coe_nonneg.2 (div_pos (hq e0) hs).le), ← EReal.coe_add, ← add_div, div_self hs.ne']
  · have ht : (∑ k : Fin 16, if k = e0 ∨ k = e1 then q k else 0) = q e0 + q e1 := by
      rw [← Finset.sum_filter, show (Finset.univ.filter fun k : Fin 16 => k = e0 ∨ k = e1) = {e0, e1} from by ext k; simp,
        Finset.sum_pair h]
    rw [← Finset.sum_subset (Finset.subset_univ ({e0, e1} : Finset (Fin 16))) (fun e _ he => by
        rw [Finset.mem_insert, Finset.mem_singleton, not_or] at he; exact hout e he.1 he.2),
      Finset.sum_pair h, gate_real hq, gate_real hq, if_pos (Or.inl rfl), if_pos (Or.inr rfl), ht]

end Gates

/-- A nonnegative weight that is not +∞ may be applied to one factor of each product, or to their sum. -/
theorem weigh {n : ℕ} {w : EReal} (h0 : 0 ≤ w) (ht : w ≠ ⊤) (x y : Fin n → EReal) : ∑ d, x d * w * y d = w * ∑ d, x d * y d := by
  have h : ∀ S : Finset (Fin n), ∑ d ∈ S, x d * w * y d = w * ∑ d ∈ S, x d * y d := by
    intro S
    induction S using Finset.induction_on with
    | empty => simp
    | insert a T ha ih =>
      rw [Finset.sum_insert ha, Finset.sum_insert ha, ih, EReal.left_distrib_of_nonneg_of_ne_top h0 ht, mul_comm (x a) w, mul_assoc]
  exact h _

/-- A token's output by sixteen gated experts: each expert's contraction of the token's entries, weighed. -/
def gated {n : ℕ} (s : Fin 16 → EReal) (e0 e1 : Fin 16) (x : Fin n → EReal) (W : Fin 16 → Fin n → EReal) : EReal :=
  ∑ e, ∑ d, x d * gate (prob s) e0 e1 e * W e d

/-- A token's output by its two experts. -/
def chosen {n : ℕ} (s : Fin 16 → EReal) (e0 e1 : Fin 16) (x : Fin n → EReal) (W : Fin 16 → Fin n → EReal) : EReal :=
  Ideal.div (prob s e0) (prob s e0 + prob s e1) * (∑ d, x d * W e0 d)
    + Ideal.div (prob s e1) (prob s e0 + prob s e1) * ∑ d, x d * W e1 d

/-- They are equal where the scores are finite. -/
theorem gated_eq_chosen {n : ℕ} (s : Fin 16 → EReal) (hs : ∀ e, ∃ r : ℝ, s e = r) (e0 e1 : Fin 16) (x : Fin n → EReal)
    (W : Fin 16 → Fin n → EReal) : gated s e0 e1 x W = chosen s e0 e1 x W := by
  obtain ⟨q, hq, hp⟩ := prob_real s hs
  unfold gated chosen
  rw [show prob s = fun k => (q k : EReal) from funext hp]
  rw [← mixture hq e0 e1 fun e => ∑ d, x d * W e d]
  exact Finset.sum_congr rfl fun e _ => weigh (gate_nonneg hq e0 e1 e) (gate_ne_top hq e0 e1 e) _ _

end Cert.Mixture

end
-- ==== Proof.KernelValue.lean ====
/-
# The kernel's value

What the kernel leaves on a device, read at a token and a column: the sum over all sixteen experts — the device's own pair and
the seven pairs that arrive — of the token's contraction with the expert's matrix, weighed by the expert's gate.
-/
module

public import proofs.«01_k».proof.Proof.Body
public import proofs.«01_k».proof.Proof.Mixture
public import Idealize.ShloMosaic.Lib.Pointwise

@[expose] public section

set_option maxRecDepth 16384

noncomputable section

namespace Cert.Exchange

open Cert.KernelIdeal Cert.KernelIdeal.Gen Idealize.ShloMosaic Idealize.ShloMosaic.TcCoe Cert.Mixture

/-! ## Words that name experts -/

/-- Two numbers below sixteen are the same when their words are. -/
theorem word_inj {a b : Fin 16} : BitVec.ofNat 32 a.val = BitVec.ofNat 32 b.val ↔ a = b := by
  refine ⟨fun h => Fin.ext ?_, fun h => h ▸ rfl⟩
  have := congrArg BitVec.toNat h
  rw [BitVec.toNat_ofNat, BitVec.toNat_ofNat] at this
  omega

/-- A choice by "the lane is one of two". -/
theorem select_either {α : Type} (e e0 e1 : Fin 16) (a b : α) :
    Scalar.select (IntOp.ori (IntOp.cmpi .eq (BitVec.ofNat 32 e.val) (BitVec.ofNat 32 e0.val))
      (IntOp.cmpi .eq (BitVec.ofNat 32 e.val) (BitVec.ofNat 32 e1.val))) a b = if e = e0 ∨ e = e1 then a else b := by
  change (if _ = 1#1 then a else b) = _
  simp only [IntOp.ori_eq_one, IntOp.cmpi_eq, word_inj]

/-- The sum of a row masked to one lane is the row at that lane. -/
theorem sum_masked (w : Fin 16 → EReal) (v : BitVec 32) (e : Fin 16) (h : v = BitVec.ofNat 32 e.val) :
    ∑ k : Fin 16, Scalar.select (IntOp.cmpi .eq (BitVec.ofNat 32 k.val) v) (w k) 0 = w e := by
  subst h
  change ∑ k : Fin 16, (if _ = 1#1 then w k else 0) = _
  simp only [IntOp.cmpi_eq, word_inj]
  simp

/-- Expert `j` of device `s`, among all. -/
abbrev expert (s : Fin 8) (j : Fin 2) : Fin 16 := finProdFinEquiv (s, j)

/-- The sum over all experts, device by device. -/
theorem sum_experts (f : Fin 16 → EReal) : ∑ e, f e = ∑ s : Fin 8, (f (expert s 0) + f (expert s 1)) := by
  rw [← Equiv.sum_comp (finProdFinEquiv (m := 8) (n := 2)) f, Fintype.sum_prod_type]
  exact Finset.sum_congr rfl fun s _ => Fin.sum_univ_two _

/-- The lanes a device compares for its own experts. -/
theorem own_words (c : Dev nD) : Scalar.muli 2#32 (meW c) = BitVec.ofNat 32 (expert c 0).val
    ∧ Scalar.addi (Scalar.muli 2#32 (meW c)) 1#32 = BitVec.ofNat 32 (expert c 1).val := by
  revert c; decide +kernel

/-- The lanes it compares for the experts that arrive from the device `k` places before it. -/
theorem got_words (k : Fin 8) (c : Dev nD) (v : BitVec 32) (hv : v = BitVec.ofNat 32 k.val) :
    Scalar.muli 2#32 (Scalar.remsi (Scalar.subi (Scalar.addi (meW c) 8#32) v) 8#32) = BitVec.ofNat 32 (expert (c - k) 0).val
    ∧ Scalar.addi (Scalar.muli 2#32 (Scalar.remsi (Scalar.subi (Scalar.addi (meW c) 8#32) v) 8#32)) 1#32
      = BitVec.ofNat 32 (expert (c - k) 1).val := by
  subst hv; revert k c; decide +kernel

/-! ## The gates -/

/-- The gates the kernel computes for a token: those of its two chosen experts, divided by their sum. -/
theorem gates_apply (x : FVec Ideal S512x256 .f32) (w : FVec Ideal S256x16 .f32) (i0 i1 : Vec Ideal S512x1 .i32) (t : Fin 512)
    (e0 e1 e : Fin 16) (h0 : i0 (ix2 t 0) = BitVec.ofNat 32 e0.val) (h1 : i1 (ix2 t 0) = BitVec.ofNat 32 e1.val) :
    k0_pay3 (F := Ideal) x w i0 i1 (ix2 t e) = gate (prob fun k => ∑ d, x (ix2 t d) * w (ix2 d k)) e0 e1 e := by
  have hb : Ideal.ofBits .f32 0xFF800000#32 = ⊥ := by simp [Ideal.ofBits, Ideal.ieee]
  pointwise [k0_pay3, k0_pay2]
  simp only [h0, h1, select_either, hb]
  rfl

/-! ## The running sum -/

/-- A token's contraction with one matrix, its entries weighed first. -/
def portion (x : FVec Ideal S512x256 .f32) (w : FVec Ideal S512x16 .f32) (t : Fin 512) (h : Fin 512) (e : Fin 16)
    (g : Fin 256 → EReal) : EReal :=
  ∑ d, x (ix2 t d) * w (ix2 t e) * g d

variable (m : (ℓ : Loc nD τ sig) → Buf (Elt Ideal) ℓ) (ρ : Dev nD → PrngReg) (c : Dev nD) (t h : Fin 512)

/-- The portion of device `s`'s expert `j` in the result of device `c`. -/
def piece (s : Dev nD) (j : Fin 2) : EReal :=
  portion (xAt m ρ c) (wv m ρ c) t h (expert s j) fun d => ewAt m ρ s (ix3 j d h)

theorem acc0_apply : acc0 m ρ c (ix2 t h) = piece m ρ c t h c 0 + piece m ρ c t h c 1 := by
  pointwise [k0_pay7, k0_pay4, k0_pay5, k0_pay6, k0_pay2, own0, own1]
  rw [sum_masked _ _ _ (own_words c).1, sum_masked _ _ _ (own_words c).2]
  rfl

theorem acc1_apply : acc1 m ρ c (ix2 t h) = acc0 m ρ c (ix2 t h) + piece m ρ c t h (c - 1) 0 + piece m ρ c t h (c - 1) 1 := by
  pointwise [k0_pay10, k0_pay9, k0_pay8, k0_pay2, k0_pay1, got0, got1, castAt]
  rw [sum_masked _ _ _ (got_words 1 c 1#32 rfl).1, sum_masked _ _ _ (got_words 1 c 1#32 rfl).2]
  rfl

theorem acc2_apply : acc2 m ρ c (ix2 t h) = acc1 m ρ c (ix2 t h) + piece m ρ c t h (c - 2) 0 + piece m ρ c t h (c - 2) 1 := by
  pointwise [k0_pay11, k0_pay2, k0_pay1, got0, got1, castAt]
  rw [sum_masked _ _ _ (got_words 2 c 2#32 rfl).1, sum_masked _ _ _ (got_words 2 c 2#32 rfl).2]
  rfl

theorem acc3_apply : acc3 m ρ c (ix2 t h) = acc2 m ρ c (ix2 t h) + piece m ρ c t h (c - 3) 0 + piece m ρ c t h (c - 3) 1 := by
  pointwise [k0_pay14, k0_pay13, k0_pay12, k0_pay2, k0_pay1, got0, got1, castAt]
  rw [sum_masked _ _ _ (got_words 3 c 3#32 rfl).1, sum_masked _ _ _ (got_words 3 c 3#32 rfl).2]
  rfl

theorem acc4_apply : acc4 m ρ c (ix2 t h) = acc3 m ρ c (ix2 t h) + piece m ρ c t h (c - 4) 0 + piece m ρ c t h (c - 4) 1 := by
  pointwise [k0_pay17, k0_pay16, k0_pay15, k0_pay2, k0_pay1, got0, got1, castAt]
  rw [sum_masked _ _ _ (got_words 4 c 4#32 rfl).1, sum_masked _ _ _ (got_words 4 c 4#32 rfl).2]
  rfl

theorem acc5_apply : acc5 m ρ c (ix2 t h) = acc4 m ρ c (ix2 t h) + piece m ρ c t h (c - 5) 0 + piece m ρ c t h (c - 5) 1 := by
  pointwise [k0_pay20, k0_pay19, k0_pay18, k0_pay2, k0_pay1, got0, got1, castAt]
  rw [sum_masked _ _ _ (got_words 5 c 5#32 rfl).1, sum_masked _ _ _ (got_words 5 c 5#32 rfl).2]
  rfl

theorem acc6_apply : acc6 m ρ c (ix2 t h) = acc5 m ρ c (ix2 t h) + piece m ρ c t h (c - 6) 0 + piece m ρ c t h (c - 6) 1 := by
  pointwise [k0_pay21, k0_pay2, k0_pay1, got0, got1, castAt]
  rw [sum_masked _ _ _ (got_words 6 c 6#32 rfl).1, sum_masked _ _ _ (got_words 6 c 6#32 rfl).2]
  rfl

theorem outAt_apply : outAt m ρ c (ix2 t h) = acc6 m ρ c (ix2 t h) + piece m ρ c t h (c - 7) 0 + piece m ρ c t h (c - 7) 1 := by
  pointwise [k0_pay24, k0_pay23, k0_pay22, k0_pay2, k0_pay1, got0, got1, castAt]
  rw [sum_masked _ _ _ (got_words 7 c 7#32 rfl).1, sum_masked _ _ _ (got_words 7 c 7#32 rfl).2]
  rfl

/-- A device's result at a token and a column is the sum, over all devices, of the portions of their two experts. -/
theorem outAt_pieces : @Eq EReal (outAt m ρ c (ix2 t h)) (∑ s : Dev nD, (piece m ρ c t h s 0 + piece m ρ c t h s 1)) := by
  rw [outAt_apply, acc6_apply, acc5_apply, acc4_apply, acc3_apply, acc2_apply, acc1_apply, acc0_apply,
    ← Equiv.sum_comp (Equiv.subLeft c) fun s : Dev nD => piece m ρ c t h s 0 + piece m ρ c t h s 1]
  refine Eq.trans ?_ (Fin.sum_univ_eight _).symm
  simp only [Equiv.subLeft_apply, sub_zero, add_assoc]

/-- The first route word of a token. -/
theorem col0_apply : col0 m ρ c (ix2 t 0) = riAt m ρ c (ix2 t 0) := by pointwise [col0]

/-- The second route word of a token. -/
theorem col1_apply : col1 m ρ c (ix2 t 0) = riAt m ρ c (ix2 t 1) := by pointwise [col1]

/-- A device's result at a token and a column: every expert's contraction with the token, its entries weighed by the token's
    gate for that expert. `x` is the token's row, `r` the router's matrix, `W` gathers the devices' experts at the column, and
    the token's two route words name `e0` and `e1`. -/
theorem outAt_gated (e0 e1 : Fin 16) (x : Fin 256 → EReal) (r : Fin 256 → Fin 16 → EReal) (W : Fin 16 → Fin 256 → EReal)
    (h0 : riAt m ρ c (ix2 t 0) = BitVec.ofNat 32 e0.val) (h1 : riAt m ρ c (ix2 t 1) = BitVec.ofNat 32 e1.val)
    (hx : ∀ d, xAt m ρ c (ix2 t d) = x d) (hr : ∀ d k, rwAt m ρ c (ix2 d k) = r d k)
    (hW : ∀ (s : Dev nD) j d, ewAt m ρ s (ix3 j d h) = W (expert s j) d) :
    outAt m ρ c (ix2 t h) = gated (fun k => ∑ d, x d * r d k) e0 e1 x W := by
  refine (outAt_pieces m ρ c t h).trans ?_
  rw [gated, sum_experts]
  have key : ∀ (s : Dev nD) (j : Fin 2), piece m ρ c t h s j
      = ∑ d, x d * gate (prob fun k => ∑ d, x d * r d k) e0 e1 (expert s j) * W (expert s j) d := fun s j => by
    have hg : wv m ρ c (ix2 t (expert s j)) = _ := gates_apply (xAt m ρ c) (rwAt m ρ c) (col0 m ρ c) (col1 m ρ c) t e0 e1 (expert s j)
      ((col0_apply m ρ c t).trans h0) ((col1_apply m ρ c t).trans h1)
    unfold piece portion
    refine Finset.sum_congr rfl fun d _ => ?_
    beta_reduce
    rw [hW, hx, hg]
    simp only [hx, hr]
  exact Finset.sum_congr rfl fun s _ => by rw [key, key]

end Cert.Exchange

end
-- ==== Proof.RefValue.lean ====
/-
# The reference's value

What the reference computes, read at a token and a column: the two chosen experts' contractions with the token, each weighed
by the expert's probability over the sum of the two.
-/
module

public import proofs.«01_k».proof.Proof.Gen.ReferenceIdeal
public import proofs.«01_k».proof.Proof.Gen.ReferenceIdeal.Run
public import proofs.«01_k».proof.Proof.Mixture
public import Idealize.ShloMosaic.Lib.Pointwise

@[expose] public section

set_option maxRecDepth 16384

noncomputable section

namespace Cert.Whole

open Cert.ReferenceIdeal Cert.ReferenceIdeal.Gen Cert.ReferenceIdeal.Value Idealize.ShloMosaic Cert.Mixture

/-- The clamp of a word that names one of sixteen positions. -/
theorem clamp_expert {v : BitVec 32} {e : Fin 16} (h : v = BitVec.ofNat 32 e.val) : min v.toInt.toNat (16 - 1) = e.val := by
  subst h; revert e; decide

/-- The clamp of a word that names one of the tokens. -/
theorem clamp_token (t : Fin 4096) : min (BitVec.ofNat 32 t.val).toInt.toNat (4096 - 1) = t.val := by
  have h : (BitVec.ofNat 32 t.val).toNat = t.val := by rw [BitVec.toNat_ofNat]; omega
  rw [BitVec.toInt_eq_toNat_of_lt (by omega), h]; omega

/-- One entry gathered per token: the token's own row, at the position its second word names. -/
theorem gather_entry {α : Type} (x : S4096x16.Idx → α) (idx : IVec S4096x2 32) (t : Fin 4096) (e : Fin 16)
    (h0 : idx (ix2 t 0) = BitVec.ofNat 32 t.val) (h1 : idx (ix2 t 1) = BitVec.ofNat 32 e.val) :
    Host.gather gather_S4096x16_S4096x2_S4096_n_01_n_n_01_1_11 x idx (ix1 t) = x (ix2 t e) := by
  unfold Host.gather
  congr 1
  funext a
  refine Fin.ext ?_
  show gather_S4096x16_S4096x2_S4096_n_01_n_n_01_1_11.start (ix1 t) idx a + gather_S4096x16_S4096x2_S4096_n_01_n_n_01_1_11.batchCoord (ix1 t) a
    + gather_S4096x16_S4096x2_S4096_n_01_n_n_01_1_11.offCoord (ix1 t) a = _
  have hmem : a ∈ ([0, 1] : List (Fin 2)) := by revert a; decide
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ gather_S4096x16_S4096x2_S4096_n_01_n_n_01_1_11.startIndexMap from hmem)]
  match a with
  | ⟨0, _⟩ =>
    have hsi : gather_S4096x16_S4096x2_S4096_n_01_n_n_01_1_11.siIdx (ix1 t) ⟨0, by decide⟩ = ix2 t 0 := by
      funext b; refine Fin.ext ?_
      match b with
      | ⟨0, _⟩ => rfl
      | ⟨1, _⟩ => rfl
    refine Eq.trans ?_ (clamp_token t)
    rw [← h0, ← hsi]
    rfl
  | ⟨1, _⟩ =>
    have hsi : gather_S4096x16_S4096x2_S4096_n_01_n_n_01_1_11.siIdx (ix1 t) ⟨1, by decide⟩ = ix2 t 1 := by
      funext b; refine Fin.ext ?_
      match b with
      | ⟨0, _⟩ => rfl
      | ⟨1, _⟩ => rfl
    refine Eq.trans ?_ (clamp_expert h1)
    rw [← hsi]
    rfl

/-- One matrix gathered per token: the one its word names. -/
theorem gather_matrix {α : Type} (x : S16x256x512.Idx → α) (idx : IVec S4096x1 32) (t : Fin 4096) (d : Fin 256) (h : Fin 512)
    (e : Fin 16) (h0 : idx (ix2 t 0) = BitVec.ofNat 32 e.val) :
    Host.gather gather_S16x256x512_S4096x1_S4096x256x512_12_0_n_n_0_1_1256512 x idx (ix3 t d h) = x (ix3 e d h) := by
  unfold Host.gather
  congr 1
  funext a
  refine Fin.ext ?_
  show gather_S16x256x512_S4096x1_S4096x256x512_12_0_n_n_0_1_1256512.start (ix3 t d h) idx a
    + gather_S16x256x512_S4096x1_S4096x256x512_12_0_n_n_0_1_1256512.batchCoord (ix3 t d h) a
    + gather_S16x256x512_S4096x1_S4096x256x512_12_0_n_n_0_1_1256512.offCoord (ix3 t d h) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ gather_S16x256x512_S4096x1_S4096x256x512_12_0_n_n_0_1_1256512.startIndexMap from List.mem_singleton.mpr rfl)]
    have hsi : gather_S16x256x512_S4096x1_S4096x256x512_12_0_n_n_0_1_1256512.siIdx (ix3 t d h) ⟨0, by decide⟩ = ix2 t 0 := by
      funext b; refine Fin.ext ?_
      match b with
      | ⟨0, _⟩ => rfl
      | ⟨1, _⟩ => rfl
    refine Eq.trans ?_ (clamp_expert h0)
    rw [← hsi]
    rfl
  | ⟨1, _⟩ => simp [GatherDims.start, gather_S16x256x512_S4096x1_S4096x256x512_12_0_n_n_0_1_1256512]; rfl
  | ⟨2, _⟩ => simp [GatherDims.start, gather_S16x256x512_S4096x1_S4096x256x512_12_0_n_n_0_1_1256512]; rfl

/-! ## The reference's values, step by step -/

/-- The router's scores of every token. -/
def scores (x : FVec Ideal S4096x256 .f32) (r : FVec Ideal S256x16 .f32) : FVec Ideal S4096x16 .f32 :=
  Host.dotGeneral dot_S4096x256_S256x16_S4096x16_1_0_0_1_n_n none x r

/-- The exponentials of the scores, the largest of the token's taken off first. -/
def exps (s : FVec Ideal S4096x16 .f32) : FVec Ideal S4096x16 .f32 :=
  Host.exp (subf s (broadcastInDim S4096x16 ![0, 1] bcast_S4096x1_S4096x16_0_1 (broadcastInDim S4096x1 ![0] bcast_S4096_S4096x1_0
    (Host.reduce FloatOps.maximumf s (constant S_ .f32 0xFF800000#32) reducesTo_S4096x16_S4096_d1 h_S_))))

/-- Every token's probabilities. -/
def probs (s : FVec Ideal S4096x16 .f32) : FVec Ideal S4096x16 .f32 :=
  Host.divf (exps s) (broadcastInDim S4096x16 ![0, 1] bcast_S4096x1_S4096x16_0_1 (broadcastInDim S4096x1 ![0] bcast_S4096_S4096x1_0
    (Host.reduceAdd (exps s) (constant S_ .f32 0x00000000#32) reducesTo_S4096x16_S4096_d1 h_S_)))

/-- The first word of every token's route. -/
def word0 (ri : IVec S4096x2 32) : IVec S4096 32 :=
  shapeCast S4096 (extractStridedSlice S4096x1 ![0, 0] ri slices_S4096x2_S4096x1_0_0) shapeCasts_S4096x1_S4096

/-- The second word of every token's route. -/
def word1 (ri : IVec S4096x2 32) : IVec S4096 32 :=
  shapeCast S4096 (extractStridedSlice S4096x1 ![0, 1] ri slices_S4096x2_S4096x1_0_1) shapeCasts_S4096x1_S4096

/-- Words counted from the end where they are negative. -/
def wrapped (n : BitVec 32) (w : IVec S4096 32) : IVec S4096x1 32 :=
  broadcastInDim S4096x1 ![0] bcast_S4096_S4096x1_0
    (select (cmpi .slt w (broadcastInDim S4096 ![] bcast_S_S4096 (constantI S_ 32 0#32)))
      (addi w (broadcastInDim S4096 ![] bcast_S_S4096 (constantI S_ 32 n))) w)

/-- Each token's number beside its word. -/
def pairs (w : IVec S4096 32) : IVec S4096x2 32 :=
  concatenate S4096x2 1 [⟨S4096x1, wrapped 4096#32 (iotaInDim S4096 32 0)⟩, ⟨S4096x1, wrapped 16#32 w⟩] concatenates_S4096x1_S4096x1_S4096x2_d1

/-- Each token's probability of the expert its word names, as a column. -/
def picked (p : FVec Ideal S4096x16 .f32) (w : IVec S4096 32) : FVec Ideal S4096x1 .f32 :=
  broadcastInDim S4096x1 ![0] bcast_S4096_S4096x1_0 (Host.gather gather_S4096x16_S4096x2_S4096_n_01_n_n_01_1_11 p (pairs w))

/-- Each token through the expert its word names. -/
def through (x : FVec Ideal S4096x256 .f32) (ew : FVec Ideal S16x256x512 .f32) (w : IVec S4096 32) : FVec Ideal S4096x512 .f32 :=
  Host.dotGeneral dot_S4096x256_S4096x256x512_S4096x512_1_1_n_2_0_0 none x
    (Host.gather gather_S16x256x512_S4096x1_S4096x256x512_12_0_n_n_0_1_1256512 ew (wrapped 16#32 w))

/-- A column laid beside itself. -/
def wide (g : FVec Ideal S4096x1 .f32) : FVec Ideal S4096x512 .f32 := broadcastInDim S4096x512 ![0, 1] bcast_S4096x1_S4096x512_0_1 g

/-- The two experts' results, weighed. -/
def mixed (x : FVec Ideal S4096x256 .f32) (ew : FVec Ideal S16x256x512 .f32) (w0 w1 : IVec S4096 32) (p : FVec Ideal S4096x16 .f32) :
    FVec Ideal S4096x512 .f32 :=
  addf (mulf (wide (Host.divf (picked p w0) (addf (picked p w0) (picked p w1)))) (through x ew w0))
    (mulf (wide (Host.divf (picked p w1) (addf (picked p w0) (picked p w1)))) (through x ew w1))

theorem res_eq (m : (ℓ : Loc nD τ sig) → Buf (Elt Ideal) ℓ) (c : Dev nD) (x : FVec Ideal S4096x256 .f32) (r : FVec Ideal S256x16 .f32)
    (ri : IVec S4096x2 32) (ew : FVec Ideal S16x256x512 .f32)
    (hx : m ((c.tc : Thread nD τ).loc main_arg0) = x) (hr : m ((c.tc : Thread nD τ).loc main_arg1) = r)
    (hi : m ((c.tc : Thread nD τ).loc main_arg2) = ri) (he : m ((c.tc : Thread nD τ).loc main_arg3) = ew) :
    res_main_v68 m c = mixed x ew (word0 ri) (word1 ri) (probs (scores x r)) := by
  subst hx hr hi he
  rfl

/-! ## Each step read at a token -/

theorem scores_apply (x : FVec Ideal S4096x256 .f32) (r : FVec Ideal S256x16 .f32) (t : Fin 4096) (e : Fin 16) :
    scores x r (ix2 t e) = ∑ d, x (ix2 t d) * r (ix2 d e) := by
  pointwise [scores]

theorem exps_apply (s : FVec Ideal S4096x16 .f32) (t : Fin 4096) (e : Fin 16) :
    exps s (ix2 t e) = Ideal.exp (s (ix2 t e) - Finset.univ.fold max ⊥ fun k => s (ix2 t k)) := by
  have hb : Ideal.ofBits .f32 0xFF800000#32 = ⊥ := by simp [Ideal.ofBits, Ideal.ieee]
  pointwise [exps]
  rw [hb]

theorem probs_apply (s : FVec Ideal S4096x16 .f32) (t : Fin 4096) (e : Fin 16) : probs s (ix2 t e) = prob (fun k => s (ix2 t k)) e := by
  pointwise [probs]
  simp only [exps_apply]
  rfl

theorem wrapped_apply (n : BitVec 32) (w : IVec S4096 32) (t : Fin 4096) (h : 0 ≤ (w (ix1 t)).toInt) :
    wrapped n w (ix2 t 0) = w (ix1 t) := by
  have hn : IntOp.cmpi .slt (w (ix1 t)) 0#32 ≠ 1#1 := by rw [Ne, IntOp.cmpi_slt]; simpa using h
  pointwise [wrapped]
  exact if_neg hn

theorem pairs_apply0 (w : IVec S4096 32) (t : Fin 4096) : pairs w (ix2 t 0) = BitVec.ofNat 32 t.val := by
  have h : (BitVec.ofNat 32 t.val).toNat = t.val := by rw [BitVec.toNat_ofNat]; omega
  refine Eq.trans (?_ : _ = wrapped 4096#32 (iotaInDim S4096 32 0) (ix2 t 0)) (wrapped_apply _ _ t ?_)
  · pointwise [pairs]
  · show 0 ≤ (BitVec.ofNat 32 t.val).toInt
    rw [BitVec.toInt_eq_toNat_of_lt (by omega)]; omega

theorem pairs_apply1 (w : IVec S4096 32) (t : Fin 4096) (h : 0 ≤ (w (ix1 t)).toInt) : pairs w (ix2 t 1) = w (ix1 t) := by
  refine Eq.trans (?_ : _ = wrapped 16#32 w (ix2 t 0)) (wrapped_apply _ _ t h)
  pointwise [pairs]

theorem expert_nonneg (e : Fin 16) : 0 ≤ (BitVec.ofNat 32 e.val).toInt := by revert e; decide

theorem picked_apply (p : FVec Ideal S4096x16 .f32) (w : IVec S4096 32) (t : Fin 4096) (e : Fin 16) (h : w (ix1 t) = BitVec.ofNat 32 e.val) :
    picked p w (ix2 t 0) = p (ix2 t e) := by
  pointwise [picked]
  exact gather_entry _ _ t e (pairs_apply0 w t) ((pairs_apply1 w t (h ▸ expert_nonneg e)).trans h)

theorem through_apply (x : FVec Ideal S4096x256 .f32) (ew : FVec Ideal S16x256x512 .f32) (w : IVec S4096 32) (t : Fin 4096) (h : Fin 512)
    (e : Fin 16) (hw : w (ix1 t) = BitVec.ofNat 32 e.val) : through x ew w (ix2 t h) = ∑ d, x (ix2 t d) * ew (ix3 e d h) := by
  pointwise [through]
  exact Finset.sum_congr rfl fun d _ =>
    congrArg (x (ix2 t d) * ·) (gather_matrix ew _ t d h e ((wrapped_apply _ w t (hw ▸ expert_nonneg e)).trans hw))

theorem mixed_apply (x : FVec Ideal S4096x256 .f32) (ew : FVec Ideal S16x256x512 .f32) (w0 w1 : IVec S4096 32) (p : FVec Ideal S4096x16 .f32)
    (t : Fin 4096) (h : Fin 512) (e0 e1 : Fin 16) (h0 : w0 (ix1 t) = BitVec.ofNat 32 e0.val) (h1 : w1 (ix1 t) = BitVec.ofNat 32 e1.val) :
    mixed x ew w0 w1 p (ix2 t h) = Ideal.div (p (ix2 t e0)) (p (ix2 t e0) + p (ix2 t e1)) * ∑ d, x (ix2 t d) * ew (ix3 e0 d h)
      + Ideal.div (p (ix2 t e1)) (p (ix2 t e0) + p (ix2 t e1)) * ∑ d, x (ix2 t d) * ew (ix3 e1 d h) := by
  rw [← through_apply x ew w0 t h e0 h0, ← through_apply x ew w1 t h e1 h1, ← picked_apply p w0 t e0 h0, ← picked_apply p w1 t e1 h1]
  pointwise [mixed, wide]

/-- The reference's result at a token and a column. The token's two route words name `e0` and `e1`. -/
theorem res_chosen (m : (ℓ : Loc nD τ sig) → Buf (Elt Ideal) ℓ) (c : Dev nD) (x : FVec Ideal S4096x256 .f32) (r : FVec Ideal S256x16 .f32)
    (ri : IVec S4096x2 32) (ew : FVec Ideal S16x256x512 .f32)
    (hx : m ((c.tc : Thread nD τ).loc main_arg0) = x) (hr : m ((c.tc : Thread nD τ).loc main_arg1) = r)
    (hi : m ((c.tc : Thread nD τ).loc main_arg2) = ri) (he : m ((c.tc : Thread nD τ).loc main_arg3) = ew)
    (t : Fin 4096) (h : Fin 512) (e0 e1 : Fin 16)
    (h0 : ri (ix2 t 0) = BitVec.ofNat 32 e0.val) (h1 : ri (ix2 t 1) = BitVec.ofNat 32 e1.val) :
    res_main_v68 m c (ix2 t h)
      = chosen (fun k => ∑ d, x (ix2 t d) * r (ix2 d k)) e0 e1 (fun d => x (ix2 t d)) (fun e d => ew (ix3 e d h)) := by
  have hw0 : word0 ri (ix1 t) = BitVec.ofNat 32 e0.val := by rw [← h0]; pointwise [word0]
  have hw1 : word1 ri (ix1 t) = BitVec.ofNat 32 e1.val := by rw [← h1]; pointwise [word1]
  rw [res_eq m c x r ri ew hx hr hi he]
  refine (mixed_apply x ew (word0 ri) (word1 ri) _ t h e0 e1 hw0 hw1).trans ?_
  simp only [probs_apply, scores_apply]
  rfl

end Cert.Whole

end
-- ==== Proof.Algebraic.lean ====
/-
# The kernel computes the reference's values

Given what `routed` says of every device's blocks — finite tokens and router, routes that name experts — each device's result
is its block of the reference's result.
-/
module

public import proofs.«01_k».proof.Defs
public import proofs.«01_k».proof.Proof.Frames
public import proofs.«01_k».proof.Proof.KernelValue
public import proofs.«01_k».proof.Proof.RefValue
public import Idealize.ShloMosaic.Lib.ReduceAll

@[expose] public section

set_option maxRecDepth 16384

noncomputable section

namespace Cert.Exchange

open Cert.KernelIdeal Cert.KernelIdeal.Gen Idealize.ShloMosaic Idealize.ShloMosaic.TcCoe Cert.Mixture

/-- The precondition's shape relations hold, over one device's blocks and over the whole arrays. -/
theorem routed_facts : Cert.Pre_routed_KernelIdeal.Facts where
  bcast_S_S512x256 := by decide
  reducesTo_S512x256_S_d0_1 := by decide
  h_S_ := by decide
  bcast_S_S256x16 := by decide
  reducesTo_S256x16_S_d0_1 := by decide
  bcast_S_S512x2 := by decide
  reducesTo_S512x2_S_d0_1 := by decide
theorem routed_whole_facts : Cert.Pre_routed_ReferenceIdeal.Facts where
  bcast_S_S4096x256 := by decide
  reducesTo_S4096x256_S_d0_1 := by decide
  h_S_ := by decide
  bcast_S_S256x16 := by decide
  reducesTo_S256x16_S_d0_1 := by decide
  bcast_S_S4096x2 := by decide
  reducesTo_S4096x2_S_d0_1 := by decide

/-! ## What the precondition says -/

/-- A number whose absolute value is below the top is a real number. -/
theorem real_of_abs {a : EReal} (h : Ideal.cmp .olt (max a (-a)) (Ideal.ofBits .f32 0x7F800000#32) = 1#1) : ∃ r : ℝ, a = r := by
  have ht : Ideal.ofBits .f32 0x7F800000#32 = ⊤ := by simp [Ideal.ofBits, Ideal.ieee]
  rw [ht] at h
  have hl : max a (-a) < ⊤ := (Ideal.cmp_olt_eq_one _ _).1 h
  induction a using EReal.rec with
  | bot => simp at hl
  | coe r => exact ⟨r, rfl⟩
  | top => simp at hl

/-- A word from 0 to 15 names an expert. -/
theorem expert_of_word {v : BitVec 32} (h0 : 0 ≤ v.toInt) (h1 : v.toInt < 16) : ∃ e : Fin 16, v = BitVec.ofNat 32 e.val := by
  have hv : v.toNat < 16 := by rw [BitVec.toInt_eq_toNat_cond] at h0 h1; split at h0 <;> omega
  exact ⟨⟨v.toNat, hv⟩, by simp⟩

/-- What `routed` says of one device's blocks: its tokens and its router are finite, and its route words name experts. -/
theorem routed_reads (x : FVec Ideal S512x256 .f32) (r : FVec Ideal S256x16 .f32) (i : IVec S512x2 32) (w : FVec Ideal S2x256x512 .f32)
    (h : @Cert.Pre_routed_KernelIdeal.fn routed_facts Ideal _ x r i w = fun _ => 1#1) :
    (∀ j, ∃ a : ℝ, x j = a) ∧ (∀ j, ∃ a : ℝ, r j = a) ∧ ∀ j, ∃ e : Fin 16, i j = BitVec.ofNat 32 e.val := by
  have h' := congrFun h (fun a => a.elim0 : Cert.Pre_routed_KernelIdeal.S_.Idx)
  obtain ⟨h8, h14⟩ := IntOp.andi_eq_one.1 h'
  obtain ⟨h3, h7⟩ := IntOp.andi_eq_one.1 h8
  haveI : Subsingleton Cert.Pre_routed_KernelIdeal.S_.Idx := ⟨fun a b => funext fun k => k.elim0⟩
  refine ⟨fun j => real_of_abs (Host.reduce_andi_all _ _ _ _ _ h3 j), fun j => real_of_abs (Host.reduce_andi_all _ _ _ _ _ h7 j), fun j => ?_⟩
  obtain ⟨hl, hr⟩ := IntOp.andi_eq_one.1 (Host.reduce_andi_all _ _ _ _ _ h14 j)
  exact expert_of_word (IntOp.cmpi_sge.1 hl) (IntOp.cmpi_slt.1 hr)

/-! ## Where a device's blocks lie in the whole arrays -/

/-- Token `t` of device `c`, among all. -/
def token (c : Fin 8) (t : Fin 512) : Fin 4096 := ⟨c.val * 512 + t.val, by omega⟩

theorem block_rows {α : Type} (n : Nat) (c : Fin 8) (v : (⟨2, ![4096, n]⟩ : Shape).Idx → α) (h : Layout.Tiles ⟨2, ![512, n]⟩ ⟨2, ![4096, n]⟩ 0 8)
    (t : Fin 512) (k : Fin n) : Layout.block ⟨2, ![512, n]⟩ ⟨2, ![4096, n]⟩ 0 8 c v h (ix2 t k) = v (ix2 (token c t) k) :=
  congrArg v (funext fun b => Fin.ext (by match b with | ⟨0, _⟩ => rfl | ⟨1, _⟩ => rfl))

theorem block_experts {α : Type} (s : Fin 8) (v : (⟨3, ![16, 256, 512]⟩ : Shape).Idx → α)
    (h : Layout.Tiles ⟨3, ![2, 256, 512]⟩ ⟨3, ![16, 256, 512]⟩ 0 8) (j : Fin 2) (d : Fin 256) (k : Fin 512) :
    Layout.block ⟨3, ![2, 256, 512]⟩ ⟨3, ![16, 256, 512]⟩ 0 8 s v h (ix3 j d k) = v (ix3 (expert s j) d k) :=
  congrArg v (funext fun b => Fin.ext (by
    match b with
    | ⟨0, _⟩ => show s.val * 2 + j.val = j.val + 2 * s.val; omega
    | ⟨1, _⟩ => rfl
    | ⟨2, _⟩ => rfl))

/-! ## The two results -/

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- Where the precondition holds and the kernel's arguments are the blocks of the reference's, a device's result at a token and a
    column is the reference's at the token's place among all. -/
theorem result_apply (x : FVec Ideal ⟨2, ![4096, 256]⟩ .f32) (r : FVec Ideal ⟨2, ![256, 16]⟩ .f32) (i : IVec ⟨2, ![4096, 2]⟩ 32)
    (w : FVec Ideal ⟨3, ![16, 256, 512]⟩ .f32)
    (hx' : m' (((0 : Dev Cert.ReferenceIdeal.nD).tc : Thread Cert.ReferenceIdeal.nD Cert.ReferenceIdeal.τ).loc Cert.ReferenceIdeal.main_arg0) = x)
    (hr' : m' (((0 : Dev Cert.ReferenceIdeal.nD).tc : Thread Cert.ReferenceIdeal.nD Cert.ReferenceIdeal.τ).loc Cert.ReferenceIdeal.main_arg1) = r)
    (hi' : m' (((0 : Dev Cert.ReferenceIdeal.nD).tc : Thread Cert.ReferenceIdeal.nD Cert.ReferenceIdeal.τ).loc Cert.ReferenceIdeal.main_arg2) = i)
    (hw' : m' (((0 : Dev Cert.ReferenceIdeal.nD).tc : Thread Cert.ReferenceIdeal.nD Cert.ReferenceIdeal.τ).loc Cert.ReferenceIdeal.main_arg3) = w)
    (hpre : Cert.Pre_KernelIdeal_routed_KernelIdeal (hPre_routed_KernelIdeal := routed_facts) m)
    (hx : ∀ c : Dev nD, m ((c : Thread nD τ).loc main_arg0) = Layout.block ⟨2, ![512, 256]⟩ ⟨2, ![4096, 256]⟩ 0 8 c x)
    (hr : ∀ c : Dev nD, m ((c : Thread nD τ).loc main_arg1) = r)
    (hi : ∀ c : Dev nD, m ((c : Thread nD τ).loc main_arg2) = Layout.block ⟨2, ![512, 2]⟩ ⟨2, ![4096, 2]⟩ 0 8 c i)
    (hw : ∀ c : Dev nD, m ((c : Thread nD τ).loc main_arg3) = Layout.block ⟨3, ![2, 256, 512]⟩ ⟨3, ![16, 256, 512]⟩ 0 8 c w)
    (c : Dev nD) (t h : Fin 512) :
    outAt m ρ c (ix2 t h) = Cert.ReferenceIdeal.Value.res_main_v68 m' 0 (ix2 (token c t) h) := by
  obtain ⟨px, pr, pi⟩ := routed_reads _ _ _ _ (hpre c)
  have ex : ∀ d, xAt m ρ c (ix2 t d) = x (ix2 (token c t) d) := fun d => by
    rw [xAt_eq, hx]; exact block_rows 256 c x _ t d
  have ei : ∀ k, riAt m ρ c (ix2 t k) = i (ix2 (token c t) k) := fun k => by
    rw [riAt_eq, hi]; exact block_rows 2 c i _ t k
  have er : ∀ d k, rwAt m ρ c (ix2 d k) = r (ix2 d k) := fun d k => by rw [rwAt_eq, hr]
  have ew : ∀ (s : Dev nD) j d, ewAt m ρ s (ix3 j d h) = w (ix3 (expert s j) d h) := fun s j d => by
    rw [ewAt_eq, hw]; exact block_experts s w _ j d h
  rw [← xAt_eq m ρ c] at px
  rw [← rwAt_eq m ρ c] at pr
  rw [← riAt_eq m ρ c] at pi
  obtain ⟨e0, h0⟩ := pi (ix2 t 0)
  obtain ⟨e1, h1⟩ := pi (ix2 t 1)
  refine (outAt_gated m ρ c t h e0 e1 (fun d => x (ix2 (token c t) d)) (fun d k => r (ix2 d k)) (fun e d => w (ix3 e d h)) h0 h1 ex er ew).trans ?_
  refine (gated_eq_chosen _ (fun e => contraction_real _ _ (fun d => ?_) (fun d => ?_)) e0 e1 _ _).trans ?_
  · exact ex d ▸ px (ix2 t d)
  · exact er d e ▸ pr (ix2 d e)
  · exact (Cert.Whole.res_chosen m' 0 x r i w hx' hr' hi' hw' (token c t) h e0 e1 ((ei 0).symm.trans h0) ((ei 1).symm.trans h1)).symm

/-- The idealized kernel and the reference compute the same values, wherever the precondition holds. -/
theorem kernel_computes_reference : Cert.algebraic_KernelIdeal_ReferenceIdeal_pre_routed_KernelIdeal (hKernelIdeal := Cert.KernelIdeal.Gen.facts)
    (hReferenceIdeal := Cert.ReferenceIdeal.Gen.facts) (hPre_routed_KernelIdeal := routed_facts) := fun m g m' g' hpre hargs => by
  refine ⟨Cert.ReferenceIdeal.Value.res_out0 (F := Ideal) m' 0, ?_, ?_⟩
  · refine (θ_run Cert.KernelIdeal.defs _ _).mono (fun r h c => ⟨(h.1 c).1.trans ?_, (h.1 c).2⟩) (run_values (F := Ideal) m g)
    funext j
    obtain ⟨t, k, rfl⟩ : ∃ (t k : Fin 512), j = ix2 t k := ⟨j 0, j 1, eq_ix2 j⟩
    refine (result_apply m g m' _ _ _ _ rfl rfl rfl rfl hpre (fun c => (hargs c).1) (fun c => (hargs c).2.1) (fun c => (hargs c).2.2.1)
      (fun c => (hargs c).2.2.2) c t k).trans ?_
    exact (block_rows 512 c _ _ t k).symm
  · exact (θ_run Cert.ReferenceIdeal.defs _ _).mono (fun r h => h 0) (Cert.ReferenceIdeal.Value.run (F := Ideal) m' g')

end Cert.Exchange

end
-- ==== Proof.lean ====
/-
# The certificate

Each claim is proved in the modules imported here; this one puts them together.
-/
module

public import proofs.«01_k».proof.Defs
public import proofs.«01_k».proof.Proof.Frames
public import proofs.«01_k».proof.Proof.Algebraic

@[expose] public section

noncomputable section

namespace Cert.Proof

open Cert.Exchange

/-- Everything the certificate claims. The idealization is the program's own text, so that it preserves it is immediate; the
    frames hold without the precondition, hence also where it holds. -/
theorem claim : Cert.Claim :=
  ⟨Cert.Kernel.Gen.facts, Cert.KernelIdeal.Gen.facts, Cert.ReferenceIdeal.Gen.facts, routed_facts, routed_whole_facts,
    frame_kernel, frame_ideal, fun m g _ => frame_ideal m g trivial, frame_reference, fun m g _ => frame_reference m g trivial,
    trivial, kernel_computes_reference⟩

end Cert.Proof

end
